-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S3x2x3x384x256 : Shape := ⟨5, ![3, 2, 3, 384, 256]⟩
abbrev S36 : Shape := ⟨1, ![36]⟩
abbrev S_ : Shape := ⟨0, ![]⟩
abbrev S384x768 : Shape := ⟨2, ![384, 768]⟩
abbrev S384x1536 : Shape := ⟨2, ![384, 1536]⟩
abbrev S384x256 : Shape := ⟨2, ![384, 256]⟩
abbrev S1x1x1x384x256 : Shape := ⟨5, ![1, 1, 1, 384, 256]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x1536, .bf16⟩
  | .local _ .vmem, ⟨4, _⟩ => ⟨S3x2x3x384x256, .bf16⟩
  | .local _ .vmem, ⟨5, _⟩ => ⟨S3x2x3x384x256, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32 : BitVec 32 := 384#32
  let v15 : BitVec 32 := Scalar.muli v2 c384_i32
  let v16 : Index := Scalar.indexCast v15
  let c0_11 : Index := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_12 : BitVec 32 := 384#32
  let v21 : BitVec 32 := Scalar.muli v2 c384_i32_12
  let v22 : Index := Scalar.indexCast v21
  let c0_13 : Index := 0#32
  ![v22.toNat, 0]
def k0_off3 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c0_i32_14
  let c4_i32_15 : BitVec 32 := 4#32
  let v27 : BitVec 32 := Scalar.addi v26 c4_i32_15
  let c4_i32_16 : BitVec 32 := 4#32
  let v28 : BitVec 32 := Scalar.remsi v27 c4_i32_16
  let c384_i32_17 : BitVec 32 := 384#32
  let v29 : BitVec 32 := Scalar.muli v28 c384_i32_17
  let v30 : Index := Scalar.indexCast v29
  let c0_18 : Index := 0#32
  ![v30.toNat, 0]
def k0_off3_at (r : Fin 4) : BitVec 32 :=
  if r.val < 2 then
    if r.val < 1 then
      0#32
    else
      4294967295#32
  else
    if r.val < 3 then
      4294967294#32
    else
      4294967293#32
def k0_off4 (d0 : Dev nD) (c0_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v35 : BitVec 32 := Scalar.addi v2 c0_i32_24
  let c4_i32_25 : BitVec 32 := 4#32
  let v36 : BitVec 32 := Scalar.addi v35 c4_i32_25
  let c4_i32_26 : BitVec 32 := 4#32
  let v37 : BitVec 32 := Scalar.remsi v36 c4_i32_26
  let c384_i32_27 : BitVec 32 := 384#32
  let v38 : BitVec 32 := Scalar.muli v37 c384_i32_27
  let v39 : Index := Scalar.indexCast v38
  let c256 : Index := 256#32
  ![v39.toNat, 256]
def k0_off4_at (r : Fin 4) : BitVec 32 :=
  if r.val < 2 then
    if r.val < 1 then
      0#32
    else
      4294967295#32
  else
    if r.val < 3 then
      4294967294#32
    else
      4294967293#32
def k0_off5 (d0 : Dev nD) (c0_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c0_i32_32
  let c4_i32_33 : BitVec 32 := 4#32
  let v45 : BitVec 32 := Scalar.addi v44 c4_i32_33
  let c4_i32_34 : BitVec 32 := 4#32
  let v46 : BitVec 32 := Scalar.remsi v45 c4_i32_34
  let c384_i32_35 : BitVec 32 := 384#32
  let v47 : BitVec 32 := Scalar.muli v46 c384_i32_35
  let v48 : Index := Scalar.indexCast v47
  let c512 : Index := 512#32
  ![v48.toNat, 512]
def k0_off5_at (r : Fin 4) : BitVec 32 :=
  if r.val < 2 then
    if r.val < 1 then
      0#32
    else
      4294967295#32
  else
    if r.val < 3 then
      4294967294#32
    else
      4294967293#32
def k0_off6 (d0 : Dev nD) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v53 : BitVec 32 := Scalar.addi v2 c0_i32_40
  let c4_i32_41 : BitVec 32 := 4#32
  let v54 : BitVec 32 := Scalar.addi v53 c4_i32_41
  let c4_i32_42 : BitVec 32 := 4#32
  let v55 : BitVec 32 := Scalar.remsi v54 c4_i32_42
  let c384_i32_43 : BitVec 32 := 384#32
  let v56 : BitVec 32 := Scalar.muli v55 c384_i32_43
  let v57 : Index := Scalar.indexCast v56
  let c768 : Index := 768#32
  ![v57.toNat, 768]
def k0_off7 (d0 : Dev nD) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v62 : BitVec 32 := Scalar.addi v2 c0_i32_49
  let c4_i32_50 : BitVec 32 := 4#32
  let v63 : BitVec 32 := Scalar.addi v62 c4_i32_50
  let c4_i32_51 : BitVec 32 := 4#32
  let v64 : BitVec 32 := Scalar.remsi v63 c4_i32_51
  let c384_i32_52 : BitVec 32 := 384#32
  let v65 : BitVec 32 := Scalar.muli v64 c384_i32_52
  let v66 : Index := Scalar.indexCast v65
  let c1024 : Index := 1024#32
  ![v66.toNat, 1024]
def k0_off8 (d0 : Dev nD) (c0_i32_58 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.addi v2 c0_i32_58
  let c4_i32_59 : BitVec 32 := 4#32
  let v72 : BitVec 32 := Scalar.addi v71 c4_i32_59
  let c4_i32_60 : BitVec 32 := 4#32
  let v73 : BitVec 32 := Scalar.remsi v72 c4_i32_60
  let c384_i32_61 : BitVec 32 := 384#32
  let v74 : BitVec 32 := Scalar.muli v73 c384_i32_61
  let v75 : Index := Scalar.indexCast v74
  let c1280 : Index := 1280#32
  ![v75.toNat, 1280]
def k0_dev3 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_75 : BitVec 32 := 1#32
  let v80 : BitVec 32 := Scalar.muli v7 c1_i32_75
  let v81 : BitVec 32 := Scalar.addi c0_i32_76 v80
  v81.toNat
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_89 : BitVec 32 := 1#32
  let v90 : BitVec 32 := Scalar.muli v7 c1_i32_89
  let v91 : BitVec 32 := Scalar.addi c0_i32_90 v90
  v91.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_103 : BitVec 32 := 1#32
  let v100 : BitVec 32 := Scalar.muli v7 c1_i32_103
  let v101 : BitVec 32 := Scalar.addi c0_i32_104 v100
  v101.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_116 : BitVec 32 := 1#32
  let v110 : BitVec 32 := Scalar.muli v5 c1_i32_116
  let v111 : BitVec 32 := Scalar.addi c0_i32_117 v110
  v111.toNat
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_130 : BitVec 32 := 1#32
  let v120 : BitVec 32 := Scalar.muli v5 c1_i32_130
  let v121 : BitVec 32 := Scalar.addi c0_i32_131 v120
  v121.toNat
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_143 : BitVec 32 := 1#32
  let v130 : BitVec 32 := Scalar.muli v5 c1_i32_143
  let v131 : BitVec 32 := Scalar.addi c0_i32_144 v130
  v131.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_149 : BitVec 32 := 1#32
  let v140 : BitVec 32 := Scalar.subi v2 c1_i32_149
  let c4_i32_150 : BitVec 32 := 4#32
  let v141 : BitVec 32 := Scalar.addi v140 c4_i32_150
  let c4_i32_151 : BitVec 32 := 4#32
  let v142 : BitVec 32 := Scalar.remsi v141 c4_i32_151
  let c384_i32_152 : BitVec 32 := 384#32
  let v143 : BitVec 32 := Scalar.muli v142 c384_i32_152
  let v144 : Index := Scalar.indexCast v143
  let c0_153 : Index := 0#32
  ![v144.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_149 : BitVec 32 := 1#32
  let v140 : BitVec 32 := Scalar.subi v2 c1_i32_149
  let c4_i32_150 : BitVec 32 := 4#32
  let v141 : BitVec 32 := Scalar.addi v140 c4_i32_150
  let c4_i32_151 : BitVec 32 := 4#32
  let v142 : BitVec 32 := Scalar.remsi v141 c4_i32_151
  let c384_i32_155 : BitVec 32 := 384#32
  let v149 : BitVec 32 := Scalar.muli v142 c384_i32_155
  let v150 : Index := Scalar.indexCast v149
  let c0_156 : Index := 0#32
  ![v150.toNat, 0]
def k0_off11 (d0 : Dev nD) (c1_i32_157 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v154 : BitVec 32 := Scalar.addi v2 c1_i32_157
  let c4_i32_158 : BitVec 32 := 4#32
  let v155 : BitVec 32 := Scalar.remsi v154 c4_i32_158
  let c384_i32_159 : BitVec 32 := 384#32
  let v156 : BitVec 32 := Scalar.muli v155 c384_i32_159
  let v157 : Index := Scalar.indexCast v156
  let c0_160 : Index := 0#32
  ![v157.toNat, 0]
def k0_off12 (d0 : Dev nD) (c1_i32_157 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v154 : BitVec 32 := Scalar.addi v2 c1_i32_157
  let c4_i32_158 : BitVec 32 := 4#32
  let v155 : BitVec 32 := Scalar.remsi v154 c4_i32_158
  let c384_i32_162 : BitVec 32 := 384#32
  let v162 : BitVec 32 := Scalar.muli v155 c384_i32_162
  let v163 : Index := Scalar.indexCast v162
  let c0_163 : Index := 0#32
  ![v163.toNat, 0]
def k0_dev9 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_199 : BitVec 32 := 1#32
  let v187 : BitVec 32 := Scalar.muli v7 c1_i32_199
  let v188 : BitVec 32 := Scalar.addi c0_i32_200 v187
  v188.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_241 : BitVec 32 := 1#32
  let v217 : BitVec 32 := Scalar.muli v7 c1_i32_241
  let v218 : BitVec 32 := Scalar.addi c0_i32_242 v217
  v218.toNat
def k0_dev11 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_283 : BitVec 32 := 1#32
  let v247 : BitVec 32 := Scalar.muli v7 c1_i32_283
  let v248 : BitVec 32 := Scalar.addi c0_i32_284 v247
  v248.toNat
def k0_dev12 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_325 : BitVec 32 := 1#32
  let v277 : BitVec 32 := Scalar.muli v5 c1_i32_325
  let v278 : BitVec 32 := Scalar.addi c0_i32_326 v277
  v278.toNat
def k0_dev13 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_367 : BitVec 32 := 1#32
  let v307 : BitVec 32 := Scalar.muli v5 c1_i32_367
  let v308 : BitVec 32 := Scalar.addi c0_i32_368 v307
  v308.toNat
def k0_dev14 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_409 : BitVec 32 := 1#32
  let v337 : BitVec 32 := Scalar.muli v5 c1_i32_409
  let v338 : BitVec 32 := Scalar.addi c0_i32_410 v337
  v338.toNat
def k0_dev15 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_457 : BitVec 32 := 1#32
  let v380 : BitVec 32 := Scalar.muli v7 c1_i32_457
  let v381 : BitVec 32 := Scalar.addi c0_i32_458 v380
  v381.toNat
def k0_dev16 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_499 : BitVec 32 := 1#32
  let v410 : BitVec 32 := Scalar.muli v7 c1_i32_499
  let v411 : BitVec 32 := Scalar.addi c0_i32_500 v410
  v411.toNat
def k0_dev17 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_541 : BitVec 32 := 1#32
  let v440 : BitVec 32 := Scalar.muli v7 c1_i32_541
  let v441 : BitVec 32 := Scalar.addi c0_i32_542 v440
  v441.toNat
def k0_dev18 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_583 : BitVec 32 := 1#32
  let v470 : BitVec 32 := Scalar.muli v5 c1_i32_583
  let v471 : BitVec 32 := Scalar.addi c0_i32_584 v470
  v471.toNat
def k0_dev19 (d0 : Dev nD) : Nat :=
  let c0_i32_626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_625 : BitVec 32 := 1#32
  let v500 : BitVec 32 := Scalar.muli v5 c1_i32_625
  let v501 : BitVec 32 := Scalar.addi c0_i32_626 v500
  v501.toNat
def k0_dev20 (d0 : Dev nD) : Nat :=
  let c0_i32_668 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_667 : BitVec 32 := 1#32
  let v530 : BitVec 32 := Scalar.muli v5 c1_i32_667
  let v531 : BitVec 32 := Scalar.addi c0_i32_668 v530
  v531.toNat
def k0_off13 (d0 : Dev nD) (c1_i32_698 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v561 : BitVec 32 := Scalar.addi v2 c1_i32_698
  let c4_i32_699 : BitVec 32 := 4#32
  let v562 : BitVec 32 := Scalar.addi v561 c4_i32_699
  let c4_i32_700 : BitVec 32 := 4#32
  let v563 : BitVec 32 := Scalar.remsi v562 c4_i32_700
  let c384_i32_701 : BitVec 32 := 384#32
  let v564 : BitVec 32 := Scalar.muli v563 c384_i32_701
  let c0_i32_705 : BitVec 32 := 0#32
  ![v564.toNat, 0]
def k0_off13_at (r : Fin 3) : BitVec 32 :=
  if r.val < 1 then
    1#32
  else
    if r.val < 2 then
      0#32
    else
      4294967295#32
def k0_dev21 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_703 : BitVec 32 := 1#32
  let v565 : BitVec 32 := Scalar.muli v7 c1_i32_703
  let v566 : BitVec 32 := Scalar.addi c0_i32_704 v565
  v566.toNat
def k0_off14 (d0 : Dev nD) (c1_i32_733 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v594 : BitVec 32 := Scalar.addi v2 c1_i32_733
  let c4_i32_734 : BitVec 32 := 4#32
  let v595 : BitVec 32 := Scalar.addi v594 c4_i32_734
  let c4_i32_735 : BitVec 32 := 4#32
  let v596 : BitVec 32 := Scalar.remsi v595 c4_i32_735
  let c384_i32_736 : BitVec 32 := 384#32
  let v597 : BitVec 32 := Scalar.muli v596 c384_i32_736
  let c256_i32 : BitVec 32 := 256#32
  ![v597.toNat, 256]
def k0_off14_at (r : Fin 3) : BitVec 32 :=
  if r.val < 1 then
    1#32
  else
    if r.val < 2 then
      0#32
    else
      4294967295#32
def k0_dev22 (d0 : Dev nD) : Nat :=
  let c0_i32_739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_738 : BitVec 32 := 1#32
  let v598 : BitVec 32 := Scalar.muli v7 c1_i32_738
  let v599 : BitVec 32 := Scalar.addi c0_i32_739 v598
  v599.toNat
def k0_off15 (d0 : Dev nD) (c1_i32_767 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v627 : BitVec 32 := Scalar.addi v2 c1_i32_767
  let c4_i32_768 : BitVec 32 := 4#32
  let v628 : BitVec 32 := Scalar.addi v627 c4_i32_768
  let c4_i32_769 : BitVec 32 := 4#32
  let v629 : BitVec 32 := Scalar.remsi v628 c4_i32_769
  let c384_i32_770 : BitVec 32 := 384#32
  let v630 : BitVec 32 := Scalar.muli v629 c384_i32_770
  let c512_i32 : BitVec 32 := 512#32
  ![v630.toNat, 512]
def k0_off15_at (r : Fin 3) : BitVec 32 :=
  if r.val < 1 then
    1#32
  else
    if r.val < 2 then
      0#32
    else
      4294967295#32
def k0_dev23 (d0 : Dev nD) : Nat :=
  let c0_i32_773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_772 : BitVec 32 := 1#32
  let v631 : BitVec 32 := Scalar.muli v7 c1_i32_772
  let v632 : BitVec 32 := Scalar.addi c0_i32_773 v631
  v632.toNat
def k0_off16 (d0 : Dev nD) (c_m1_i32_801 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v660 : BitVec 32 := Scalar.addi v2 c_m1_i32_801
  let c4_i32_802 : BitVec 32 := 4#32
  let v661 : BitVec 32 := Scalar.addi v660 c4_i32_802
  let c4_i32_803 : BitVec 32 := 4#32
  let v662 : BitVec 32 := Scalar.remsi v661 c4_i32_803
  let c384_i32_804 : BitVec 32 := 384#32
  let v663 : BitVec 32 := Scalar.muli v662 c384_i32_804
  let c768_i32 : BitVec 32 := 768#32
  ![v663.toNat, 768]
def k0_off16_at (r : Fin 3) : BitVec 32 :=
  if r.val < 1 then
    4294967295#32
  else
    if r.val < 2 then
      0#32
    else
      1#32
def k0_dev24 (d0 : Dev nD) : Nat :=
  let c0_i32_807 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_806 : BitVec 32 := 1#32
  let v664 : BitVec 32 := Scalar.muli v5 c1_i32_806
  let v665 : BitVec 32 := Scalar.addi c0_i32_807 v664
  v665.toNat
def k0_off17 (d0 : Dev nD) (c_m1_i32_835 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v693 : BitVec 32 := Scalar.addi v2 c_m1_i32_835
  let c4_i32_836 : BitVec 32 := 4#32
  let v694 : BitVec 32 := Scalar.addi v693 c4_i32_836
  let c4_i32_837 : BitVec 32 := 4#32
  let v695 : BitVec 32 := Scalar.remsi v694 c4_i32_837
  let c384_i32_838 : BitVec 32 := 384#32
  let v696 : BitVec 32 := Scalar.muli v695 c384_i32_838
  let c1024_i32 : BitVec 32 := 1024#32
  ![v696.toNat, 1024]
def k0_off17_at (r : Fin 3) : BitVec 32 :=
  if r.val < 1 then
    4294967295#32
  else
    if r.val < 2 then
      0#32
    else
      1#32
def k0_dev25 (d0 : Dev nD) : Nat :=
  let c0_i32_841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_840 : BitVec 32 := 1#32
  let v697 : BitVec 32 := Scalar.muli v5 c1_i32_840
  let v698 : BitVec 32 := Scalar.addi c0_i32_841 v697
  v698.toNat
def k0_off18 (d0 : Dev nD) (c_m1_i32_869 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v726 : BitVec 32 := Scalar.addi v2 c_m1_i32_869
  let c4_i32_870 : BitVec 32 := 4#32
  let v727 : BitVec 32 := Scalar.addi v726 c4_i32_870
  let c4_i32_871 : BitVec 32 := 4#32
  let v728 : BitVec 32 := Scalar.remsi v727 c4_i32_871
  let c384_i32_872 : BitVec 32 := 384#32
  let v729 : BitVec 32 := Scalar.muli v728 c384_i32_872
  let c1280_i32 : BitVec 32 := 1280#32
  ![v729.toNat, 1280]
def k0_off18_at (r : Fin 3) : BitVec 32 :=
  if r.val < 1 then
    4294967295#32
  else
    if r.val < 2 then
      0#32
    else
      1#32
def k0_dev26 (d0 : Dev nD) : Nat :=
  let c0_i32_875 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_874 : BitVec 32 := 1#32
  let v730 : BitVec 32 := Scalar.muli v5 c1_i32_874
  let v731 : BitVec 32 := Scalar.addi c0_i32_875 v730
  v731.toNat
def k0_dev27 (d0 : Dev nD) : Nat :=
  let c0_i32_889 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_888 : BitVec 32 := 1#32
  let v748 : BitVec 32 := Scalar.muli v7 c1_i32_888
  let v749 : BitVec 32 := Scalar.addi c0_i32_889 v748
  v749.toNat
def k0_dev28 (d0 : Dev nD) : Nat :=
  let c0_i32_904 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_903 : BitVec 32 := 1#32
  let v766 : BitVec 32 := Scalar.muli v7 c1_i32_903
  let v767 : BitVec 32 := Scalar.addi c0_i32_904 v766
  v767.toNat
def k0_dev29 (d0 : Dev nD) : Nat :=
  let c0_i32_919 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_918 : BitVec 32 := 1#32
  let v784 : BitVec 32 := Scalar.muli v7 c1_i32_918
  let v785 : BitVec 32 := Scalar.addi c0_i32_919 v784
  v785.toNat
def k0_dev30 (d0 : Dev nD) : Nat :=
  let c0_i32_934 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_933 : BitVec 32 := 1#32
  let v802 : BitVec 32 := Scalar.muli v5 c1_i32_933
  let v803 : BitVec 32 := Scalar.addi c0_i32_934 v802
  v803.toNat
def k0_dev31 (d0 : Dev nD) : Nat :=
  let c0_i32_949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_948 : BitVec 32 := 1#32
  let v820 : BitVec 32 := Scalar.muli v5 c1_i32_948
  let v821 : BitVec 32 := Scalar.addi c0_i32_949 v820
  v821.toNat
def k0_dev32 (d0 : Dev nD) : Nat :=
  let c0_i32_964 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_963 : BitVec 32 := 1#32
  let v838 : BitVec 32 := Scalar.muli v5 c1_i32_963
  let v839 : BitVec 32 := Scalar.addi c0_i32_964 v838
  v839.toNat
def k0_dev33 (d0 : Dev nD) : Nat :=
  let c0_i32_979 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_978 : BitVec 32 := 1#32
  let v856 : BitVec 32 := Scalar.muli v7 c1_i32_978
  let v857 : BitVec 32 := Scalar.addi c0_i32_979 v856
  v857.toNat
def k0_dev34 (d0 : Dev nD) : Nat :=
  let c0_i32_994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_993 : BitVec 32 := 1#32
  let v874 : BitVec 32 := Scalar.muli v7 c1_i32_993
  let v875 : BitVec 32 := Scalar.addi c0_i32_994 v874
  v875.toNat
def k0_dev35 (d0 : Dev nD) : Nat :=
  let c0_i32_1009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1008 : BitVec 32 := 1#32
  let v892 : BitVec 32 := Scalar.muli v7 c1_i32_1008
  let v893 : BitVec 32 := Scalar.addi c0_i32_1009 v892
  v893.toNat
def k0_dev36 (d0 : Dev nD) : Nat :=
  let c0_i32_1024 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1023 : BitVec 32 := 1#32
  let v910 : BitVec 32 := Scalar.muli v5 c1_i32_1023
  let v911 : BitVec 32 := Scalar.addi c0_i32_1024 v910
  v911.toNat
def k0_dev37 (d0 : Dev nD) : Nat :=
  let c0_i32_1039 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1038 : BitVec 32 := 1#32
  let v928 : BitVec 32 := Scalar.muli v5 c1_i32_1038
  let v929 : BitVec 32 := Scalar.addi c0_i32_1039 v928
  v929.toNat
def k0_dev38 (d0 : Dev nD) : Nat :=
  let c0_i32_1054 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1053 : BitVec 32 := 1#32
  let v946 : BitVec 32 := Scalar.muli v5 c1_i32_1053
  let v947 : BitVec 32 := Scalar.addi c0_i32_1054 v946
  v947.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1536x3072, .bf16⟩
  | .hbm, ⟨1, _⟩ => ⟨S3072x1536, .bf16⟩
  | .hbm, ⟨2, _⟩ => ⟨S1536x1536, .f32⟩
  | .hbm, ⟨3, _⟩ => ⟨S1536x1536, .bf16⟩
  | .hbm, ⟨4, _⟩ => ⟨S_, .bf16⟩
  | .hbm, ⟨5, _⟩ => ⟨S1536x1536, .bf16⟩
  | .hbm, ⟨6, _⟩ => ⟨S1536x1536, .bf16⟩
  | _, _ => ⟨S1536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Clean.lean ====
/-
# `Clean`: the kernel's body as a short program

The printed body is one straight line of some four hundred operations, the sources' loops unrolled. Here the
same program is written with the loops kept. Thirty-six copies are numbered `y = 18 * phase + 6 * hop + lane`
(phase 0 reduces, phase 1 gathers; a lane is a direction and one of three column blocks of it), so that copy
`y` and copy `y + 6` are consecutive hops of one lane. `body_eq` states that the printed body IS this program.
-/
module

public import proofs.«01_k».proof.Proof.Gen.KernelIdeal
public import proofs.«01_k».proof.Proof.Gen.KernelIdeal.Skeleton

@[expose] public section

noncomputable section

namespace Cert.RingMM

open Cert.KernelIdeal Cert.KernelIdeal.Gen
open Idealize.ShloMosaic Idealize.SL.Sem

variable {F : FTy → Type} [FloatOps F]

/-! ## Offsets -/

/-- The start of lane `l`'s block of the row chunk `i` hops behind (first three lanes) or ahead (last three). -/
def accOff (c : Dev nD) (i : Fin 4) (l : ℕ) : Fin 2 → ℕ :=
  match l with
  | 0 => k0_off3 c (k0_off3_at i) | 1 => k0_off4 c (k0_off4_at i) | 2 => k0_off5 c (k0_off5_at i)
  | 3 => k0_off6 c (BitVec.ofNat 32 i.val) | 4 => k0_off7 c (BitVec.ofNat 32 i.val) | _ => k0_off8 c (BitVec.ofNat 32 i.val)

theorem accOff_inb (c : Dev nD) (i : Fin 4) (l : ℕ) : ∀ a, accOff c i l a + S384x256.size a ≤ S1536x1536.size a := by
  unfold accOff; split
  exacts [k0_off3_inb c i, k0_off4_inb c i, k0_off5_inb c i, k0_off6_inb c i, k0_off7_inb c i, k0_off8_inb c i]

theorem accOff_packed (c : Dev nD) (i : Fin 4) (l : ℕ) :
    (Rect.unit (s := S1536x1536) (accOff c i l) S384x256.size (accOff_inb c i l)).PackedRows (EltTy.packing .bf16) := by
  unfold accOff; split
  exacts [k0_off3_packedbf16 c i, k0_off4_packedbf16 c i, k0_off5_packedbf16 c i, k0_off6_packedbf16 c i,
    k0_off7_packedbf16 c i, k0_off8_packedbf16 c i]

/-- The start of the block lane `l` sends at hop `j` of the gathering phase. -/
def agOff (c : Dev nD) (j : Fin 3) (l : ℕ) : Fin 2 → ℕ :=
  match l with
  | 0 => k0_off13 c (k0_off13_at j) | 1 => k0_off14 c (k0_off14_at j) | 2 => k0_off15 c (k0_off15_at j)
  | 3 => k0_off16 c (k0_off16_at j) | 4 => k0_off17 c (k0_off17_at j) | _ => k0_off18 c (k0_off18_at j)

theorem agOff_inb (c : Dev nD) (j : Fin 3) (l : ℕ) : ∀ a, agOff c j l a + S384x256.size a ≤ S1536x1536.size a := by
  unfold agOff; split
  exacts [k0_off13_inb c j, k0_off14_inb c j, k0_off15_inb c j, k0_off16_inb c j, k0_off17_inb c j, k0_off18_inb c j]

theorem agOff_words (c : Dev nD) (j : Fin 3) (l : ℕ) :
    (Rect.unit (s := S1536x1536) (agOff c j l) S384x256.size (agOff_inb c j l)).WholeWords (EltTy.packing .bf16) := by
  unfold agOff; split
  exacts [k0_off13_wordsbf16 c j, k0_off14_wordsbf16 c j, k0_off15_wordsbf16 c j, k0_off16_wordsbf16 c j,
    k0_off17_wordsbf16 c j, k0_off18_wordsbf16 c j]

/-- The start of reducing copy `y`'s slot in the staging and landing buffers: hop, direction, column block. -/
def slotOff (y : ℕ) : Fin 5 → ℕ := ![y / 6 % 3, y / 3 % 2, y % 3, 0, 0]

theorem slot_facts : ∀ (h : Fin 3) (d : Fin 2) (s : Fin 3), ∃ hb : ∀ a, (![h.val, d.val, s.val, 0, 0] : Fin 5 → ℕ) a + S1x1x1x384x256.size a ≤ S3x2x3x384x256.size a,
    (Rect.unit (s := S3x2x3x384x256) ![h.val, d.val, s.val, 0, 0] S1x1x1x384x256.size hb).WholeWords (EltTy.packing .bf16)
      ∧ (Rect.unit (s := S3x2x3x384x256) ![h.val, d.val, s.val, 0, 0] S1x1x1x384x256.size hb).PackedRows (EltTy.packing .bf16) := by decide

theorem slotOff_inb (y : ℕ) : ∀ a, slotOff y a + S1x1x1x384x256.size a ≤ S3x2x3x384x256.size a :=
  (slot_facts ⟨y / 6 % 3, Nat.mod_lt _ (by decide)⟩ ⟨y / 3 % 2, Nat.mod_lt _ (by decide)⟩ ⟨y % 3, Nat.mod_lt _ (by decide)⟩).1
theorem slotOff_words (y : ℕ) :
    (Rect.unit (s := S3x2x3x384x256) (slotOff y) S1x1x1x384x256.size (slotOff_inb y)).WholeWords (EltTy.packing .bf16) :=
  (slot_facts ⟨y / 6 % 3, Nat.mod_lt _ (by decide)⟩ ⟨y / 3 % 2, Nat.mod_lt _ (by decide)⟩ ⟨y % 3, Nat.mod_lt _ (by decide)⟩).2.1
theorem slotOff_packed (y : ℕ) :
    (Rect.unit (s := S3x2x3x384x256) (slotOff y) S1x1x1x384x256.size (slotOff_inb y)).PackedRows (EltTy.packing .bf16) :=
  (slot_facts ⟨y / 6 % 3, Nat.mod_lt _ (by decide)⟩ ⟨y / 3 % 2, Nat.mod_lt _ (by decide)⟩ ⟨y % 3, Nat.mod_lt _ (by decide)⟩).2.2

/-! ## Memory references and semaphores -/

abbrev aM : Memref sig .tc .vmem S1536x768 .bf16 := Memref.whole cc0_stg0_0
abbrev bM : Memref sig .tc .vmem S768x1536 .bf16 := Memref.whole cc0_stg1_0
abbrev oM : Memref sig .tc .vmem S1536x1536 .bf16 := Memref.whole cc0_stg2_0
abbrev accM : Memref sig .tc .vmem S1536x1536 .bf16 := Memref.whole cc0_scratch0
abbrev stgM : Memref sig .tc .vmem S3x2x3x384x256 .bf16 := Memref.whole cc0_scratch1
abbrev comM : Memref sig .tc .vmem S3x2x3x384x256 .bf16 := Memref.whole cc0_scratch2

/-- Lane block rectangles of the accumulator and of the result, slot rectangles, row-chunk rectangles. -/
abbrev accR (c : Dev nD) (i : Fin 4) (l : ℕ) : Rect S1536x1536 := Rect.unit (s := S1536x1536) (accOff c i l) S384x256.size (accOff_inb c i l)
abbrev agR (c : Dev nD) (j : Fin 3) (l : ℕ) : Rect S1536x1536 := Rect.unit (s := S1536x1536) (agOff c j l) S384x256.size (agOff_inb c j l)
abbrev slotR (y : ℕ) : Rect S3x2x3x384x256 := Rect.unit (s := S3x2x3x384x256) (slotOff y) S1x1x1x384x256.size (slotOff_inb y)

/-- Reducing copy `y`'s slot of the staging buffer, of the landing buffer; gathering copy `y`'s block of the result. -/
abbrev stgS (y : ℕ) : Memref sig .tc .vmem S384x256 .bf16 := (stgM.slice (slotR y) (fun _ => rfl)).squeeze S384x256 squeezes_S1x1x1x384x256_S384x256
abbrev comS (y : ℕ) : Memref sig .tc .vmem S384x256 .bf16 := (comM.slice (slotR y) (fun _ => rfl)).squeeze S384x256 squeezes_S1x1x1x384x256_S384x256
abbrev agS (c : Dev nD) (y : ℕ) : Memref sig .tc .vmem S384x256 .bf16 := oM.slice (agR c (Fin.ofNat 3 (y / 6)) (y % 6)) (fun _ => rfl)

theorem semOff_inb (y : ℕ) : ∀ a, (![y % 36] : Fin 1 → Nat) a + S1.size a ≤ S36.size a := by
  intro a; fin_cases a; have := Nat.mod_lt y (show 36 > 0 by decide); show y % 36 + 1 ≤ 36; omega
/-- Copy `y`'s send and receive semaphore. -/
abbrev sndS (y : ℕ) : DmaSems sig S_ := (cc0_scratch3.slice (Rect.unit (s := S36) ![y % 36] S1.size (semOff_inb y))).squeeze S_ squeezes_S1_S_
abbrev rcvS (y : ℕ) : DmaSems sig S_ := (cc0_scratch4.slice (Rect.unit (s := S36) ![y % 36] S1.size (semOff_inb y))).squeeze S_ squeezes_S1_S_
/-- The barrier semaphore. -/
abbrev barS : Sems sig S_ := SemArray.scalar (sig.barrier 0 rfl)

/-- The device copy `y` of device `c` goes to: the one after it on the first three lanes, the one before it on the others. -/
abbrev dst (c : Dev nD) (y : ℕ) : Dev nD := if y / 3 % 2 = 0 then ⟨k0_dev3 c, k0_dev3_lt c⟩ else ⟨k0_dev6 c, k0_dev6_lt c⟩

theorem stgS_exact (y : ℕ) : (stgS y).view.WordExact := ((Memref.isWhole_whole _).wordExact_slice rfl _ (slotOff_words y)).reshape _ _
theorem comS_exact (y : ℕ) : (comS y).view.WordExact := ((Memref.isWhole_whole _).wordExact_slice rfl _ (slotOff_words y)).reshape _ _
theorem agS_exact (c : Dev nD) (y : ℕ) : (agS c y).view.WordExact := (Memref.isWhole_whole _).wordExact_slice rfl _ (agOff_words c _ _)

/-! ## The operations -/

abbrev P (F : FTy → Type) (α : Type) := Prog (TpuEff nD τ sig (Elt F) Λ₀ .tc) α

/-- Multiply the 384 rows of `A` starting at `offA` by `B` and leave the product in the accumulator's rows at `off`. -/
def chunkOp (b : FVec F S768x1536 .bf16) (offA : Fin 2 → ℕ) (hA : ∀ a, offA a + S384x768.size a ≤ S1536x768.size a)
    (off : Fin 2 → ℕ) (h : ∀ a, off a + S384x1536.size a ≤ S1536x1536.size a)
    (hp : (Rect.unit (s := S1536x1536) off S384x1536.size h).PackedRows (EltTy.packing .bf16)) : P F PUnit := do
  let v : Vec F S384x768 .bf16 ← Prog.lift (.load aM (Rect.unit (s := S1536x768) offA S384x768.size hA).toLoadRect (View.loadsAt_vmem h_S384x768))
  let _w : Vec F S384x1536 .bf16 ← Prog.lift (.load accM (Rect.unit (s := S1536x1536) off S384x1536.size h).toLoadRect (View.loadsAt_vmem h_S384x1536))
  Prog.lift (.store accM (Rect.unit (s := S1536x1536) off S384x1536.size h) (k0_pay9 b v) Finset.univ
    (View.stores_vmem h_S384x1536 ((Memref.isWhole_whole _).storeExact_slice rfl _ hp) (fun _ => rfl)) (.inl rfl))

/-- Stage copy `y` of the first hop: the device's own product block. -/
def stageOp (c : Dev nD) (y : ℕ) : P F PUnit := do
  let v : Vec F S384x256 .bf16 ← Prog.lift (.load accM (accR c 0 (y % 6)).toLoadRect (View.loadsAt_vmem h_S384x256))
  let _w : Vec F S1x1x1x384x256 .bf16 ← Prog.lift (.load stgM (slotR y).toLoadRect (View.loadsAt_vmem h_S1x1x1x384x256))
  Prog.lift (.store stgM (slotR y) (k0_pay3 v) Finset.univ (View.stores_vmem h_S1x1x1x384x256 ((Memref.isWhole_whole _).storeExact_slice rfl _ (slotOff_packed y)) (fun _ => rfl)) (.inl rfl))

/-- Stage copy `y + 6`: the device's own product block plus what copy `y` brought. -/
def foldOp (c : Dev nD) (y : ℕ) : P F PUnit := do
  let v : Vec F S384x256 .bf16 ← Prog.lift (.load accM (accR c (Fin.ofNat 4 (y / 6 + 1)) (y % 6)).toLoadRect (View.loadsAt_vmem h_S384x256))
  let w : Vec F S1x1x1x384x256 .bf16 ← Prog.lift (.load comM (slotR y).toLoadRect (View.loadsAt_vmem h_S1x1x1x384x256))
  let _w : Vec F S1x1x1x384x256 .bf16 ← Prog.lift (.load stgM (slotR (y + 6)).toLoadRect (View.loadsAt_vmem h_S1x1x1x384x256))
  Prog.lift (.store stgM (slotR (y + 6)) (k0_pay12 v w) Finset.univ (View.stores_vmem h_S1x1x1x384x256 ((Memref.isWhole_whole _).storeExact_slice rfl _ (slotOff_packed (y + 6))) (fun _ => rfl)) (.inl rfl))

/-- The finished block of lane `y`: the device's own product block plus what copy `y` brought, clamped below at zero. -/
def outOp (c : Dev nD) (y : ℕ) : P F PUnit := do
  let v : Vec F S384x256 .bf16 ← Prog.lift (.load accM (accR c 3 (y % 6)).toLoadRect (View.loadsAt_vmem h_S384x256))
  let w : Vec F S1x1x1x384x256 .bf16 ← Prog.lift (.load comM (slotR y).toLoadRect (View.loadsAt_vmem h_S1x1x1x384x256))
  let _w : Vec F S384x256 .bf16 ← Prog.lift (.load oM (accR c 3 (y % 6)).toLoadRect (View.loadsAt_vmem h_S384x256))
  Prog.lift (.store oM (accR c 3 (y % 6)) (k0_pay27 v w) Finset.univ (View.stores_vmem h_S384x256 ((Memref.isWhole_whole _).storeExact_slice rfl _ (accOff_packed c 3 (y % 6))) (fun _ => rfl)) (.inl rfl))

/-- Start reducing copy `y`; gathering copy `y`. -/
def sendRS (c : Dev nD) (y : ℕ) : P F PUnit :=
  Prog.lift (.enqueueDma (stgS y) (.remote (Dev.tc (dst c y)) (comS y) (.dma (sndS y).sem)) (.dma (rcvS y).sem) (stgS_exact y) (comS_exact y) ⟨⟨rfl, Or.inl rfl⟩, trivial⟩)
def sendAG (c : Dev nD) (y : ℕ) : P F PUnit :=
  Prog.lift (.enqueueDma (agS c y) (.remote (Dev.tc (dst c y)) (agS c y) (.dma (sndS y).sem)) (.dma (rcvS y).sem) (agS_exact c y) (agS_exact c y) ⟨⟨rfl, Or.inl rfl⟩, trivial⟩)
/-- Wait for the arrival of reducing copy `y`; of gathering copy `y`. -/
def recvRS (y : ℕ) : P F PUnit := Prog.lift (.waitDma2 (rcvS y).sem (stgS y) (comS y) (stgS_exact y) (comS_exact y))
def recvAG (c : Dev nD) (y : ℕ) : P F PUnit := Prog.lift (.waitDma2 (rcvS y).sem (agS c y) (agS c y) (agS_exact c y) (agS_exact c y))
/-- Wait until reducing copy `y` has left; gathering copy `y`. -/
def leftRS (y : ℕ) : P F PUnit := Prog.lift (.waitDma2 (sndS y).sem (comS y) (stgS y) (comS_exact y) (stgS_exact y))
def leftAG (c : Dev nD) (y : ℕ) : P F PUnit := Prog.lift (.waitDma2 (sndS y).sem (agS c y) (agS c y) (agS_exact c y) (agS_exact c y))

/-- `f a`, `f (a + 1)`, …, `n` of them. -/
def runFrom (f : ℕ → P F PUnit) (a : ℕ) : ℕ → P F PUnit
  | 0 => pure ⟨⟩
  | n + 1 => f a >>= fun _ => runFrom f (a + 1) n

/-- The middle hops of the reduction, its last hop, and the first two hops of the gathering. -/
def stepRS (c : Dev nD) (y : ℕ) : P F PUnit := recvRS y >>= fun _ => foldOp c y >>= fun _ => sendRS c (y + 6)
def stepOut (c : Dev nD) (y : ℕ) : P F PUnit := recvRS y >>= fun _ => outOp c y >>= fun _ => sendAG c (y + 6)
def stepAG (c : Dev nD) (y : ℕ) : P F PUnit := recvAG c y >>= fun _ => sendAG c (y + 6)

/-- The body after the device has read its place. -/
def bodyAt (c : Dev nD) : P F PUnit := do
  let v8 : Vec F S768x1536 .bf16 ← Prog.lift (.load bM (Rect.unit (s := S768x1536) ![0, 0] S768x1536.size inb_S768x1536_S768x1536_0_0).toLoadRect (View.loadsAt_vmem h_S768x1536))
  semSignalWord (⟨k0_dev1 c, k0_dev1_lt c⟩ : Dev nD) barS.sem 1#32
  semSignalWord (⟨k0_dev2 c, k0_dev2_lt c⟩ : Dev nD) barS.sem 1#32
  chunkOp (k0_pay1 v8) (k0_off1 c) (k0_off1_inb c) (k0_off2 c) (k0_off2_inb c) (k0_off2_packedbf16 c)
  runFrom (stageOp c) 0 6
  semWaitWord barS.sem 2#32
  runFrom (sendRS c) 0 6
  chunkOp (k0_pay1 v8) (k0_off9 c) (k0_off9_inb c) (k0_off10 c) (k0_off10_inb c) (k0_off10_packedbf16 c)
  chunkOp (k0_pay1 v8) (k0_off11 c 1#32) (k0_off11_inb c 0) (k0_off12 c 1#32) (k0_off12_inb c 0) (k0_off12_packedbf16 c 0)
  runFrom (stepRS c) 0 6
  chunkOp (k0_pay1 v8) (k0_off11 c 2#32) (k0_off11_inb c 1) (k0_off12 c 2#32) (k0_off12_inb c 1) (k0_off12_packedbf16 c 1)
  runFrom (stepRS c) 6 6
  runFrom (stepOut c) 12 6
  runFrom (stepAG c) 18 12
  runFrom (recvAG c) 30 6
  runFrom leftRS 0 18
  runFrom (leftAG c) 18 18

/-- The whole body. -/
def body : P F PUnit := do
  let c : Dev nD ← Prog.lift .deviceId
  bodyAt c

set_option maxRecDepth 100000 in
set_option maxHeartbeats 4000000 in
/-- The printed body, on the buffers the program calls it with, is `body`. -/
theorem body_eq : cc0_body (F := F) aM (Memref.isWhole_whole _) bM (Memref.isWhole_whole _) oM (Memref.isWhole_whole _)
    accM (Memref.isWhole_whole _) stgM (Memref.isWhole_whole _) comM (Memref.isWhole_whole _) cc0_scratch3 cc0_scratch4 = body := by
  rw [cc0_body_eq_skeleton]
  rfl

end Cert.RingMM

end
-- ==== Proof.Geom.lean ====
/-
# `Geom`: where the copies go

Closed forms of the program's offsets: which row chunk a lane's block lies in, at each hop, on each device of
the ring; that the blocks tile their buffers; and which semaphore each copy uses.
-/
module

public import proofs.«01_k».proof.Proof.Clean
public import Idealize.ShloMosaic.Lib.ViewIndex

@[expose] public section

noncomputable section

namespace Cert.RingMM

open Cert.KernelIdeal Cert.KernelIdeal.Gen
open Idealize.ShloMosaic Idealize.SL.Sem

/-! ## The ring -/

set_option backward.proofsInPublic true in
/-- The device `k` places further around the ring. -/
def adv (c : Dev nD) (k : ℕ) : Dev nD := ⟨(c.val + k) % 4, Nat.mod_lt _ (by decide)⟩
/-- The neighbour in a direction: `false` forwards, `true` backwards. -/
def nx (d : Bool) (c : Dev nD) : Dev nD := if d then adv c 3 else adv c 1
/-- The direction copy `y` travels in. -/
def dir (y : ℕ) : Bool := decide (y / 3 % 2 = 1)
/-- Where copy `y` of device `c` goes, and where the copy `y` that reaches `c` comes from. -/
def tgt (y : ℕ) (c : Dev nD) : Dev nD := nx (dir y) c
def orig (y : ℕ) (c : Dev nD) : Dev nD := nx (!dir y) c

theorem nx_nx (d : Bool) (c : Dev nD) : nx d (nx (!d) c) = c := by revert d c; decide
theorem nx_nx' (d : Bool) (c : Dev nD) : nx (!d) (nx d c) = c := by revert d c; decide
theorem tgt_orig (y : ℕ) (c : Dev nD) : tgt y (orig y c) = c := nx_nx _ c
theorem orig_tgt (y : ℕ) (c : Dev nD) : orig y (tgt y c) = c := nx_nx' _ c
theorem nx_inj {d : Bool} {c c' : Dev nD} (h : nx d c = nx d c') : c = c' := by rw [← nx_nx' d c, h, nx_nx']

theorem dir_mod (y : ℕ) : dir (y % 6) = dir y := by unfold dir; congr 1; rw [eq_iff_iff]; omega
theorem dir_add6 (y : ℕ) : dir (y + 6) = dir y := by rw [← dir_mod (y + 6), Nat.add_mod_right, dir_mod]
theorem tgt_mod (y : ℕ) (c : Dev nD) : tgt (y % 6) c = tgt y c := by unfold tgt; rw [dir_mod]
theorem orig_mod (y : ℕ) (c : Dev nD) : orig (y % 6) c = orig y c := by unfold orig; rw [dir_mod]
theorem tgt_add6 (y : ℕ) (c : Dev nD) : tgt (y + 6) c = tgt y c := by unfold tgt; rw [dir_add6]
theorem orig_add6 (y : ℕ) (c : Dev nD) : orig (y + 6) c = orig y c := by unfold orig; rw [dir_add6]

theorem dst_eq (c : Dev nD) (y : ℕ) : dst c y = tgt y c := by
  unfold dst tgt nx dir
  by_cases h : y / 3 % 2 = 0
  · rw [if_pos h, if_neg (by rw [h]; decide)]; exact Fin.ext (k0_dev3_eq c)
  · rw [if_neg h, if_pos (by rw [decide_eq_true_eq]; omega)]; exact Fin.ext (k0_dev6_eq c)

theorem dev1_eq (c : Dev nD) : (⟨k0_dev1 c, k0_dev1_lt c⟩ : Dev nD) = nx true c := Fin.ext (k0_dev1_eq c)
theorem dev2_eq (c : Dev nD) : (⟨k0_dev2 c, k0_dev2_lt c⟩ : Dev nD) = nx false c := Fin.ext (k0_dev2_eq c)

/-! ## Row chunks -/

/-- The row chunk lane `l` of device `c` works on at hop `i` of the reduction, and sends at hop `j` of the gathering. -/
def ck (c : Dev nD) (i : Fin 4) (l : ℕ) : Dev nD := if l / 3 % 2 = 1 then adv c i.val else adv c (4 - i.val)
def gk (c : Dev nD) (j : Fin 3) (l : ℕ) : Dev nD := if l / 3 % 2 = 1 then adv c (3 + j.val) else adv c (5 - j.val)
/-- The row chunk of the block that gathering copy `y` leaves on device `n`; for `y < 18`, of the block `n` finishes itself. -/
def ob (n : Dev nD) (y : ℕ) : Dev nD := if dir y then adv n (1 + y / 6) else adv n (7 - y / 6)

theorem accOff_eq6 : ∀ (c : Dev nD) (i : Fin 4) (l : Fin 6), accOff c i l.val = ![384 * (ck c i l.val).val, 256 * l.val] := by decide +kernel
theorem agOff_eq6 : ∀ (c : Dev nD) (j : Fin 3) (l : Fin 6), agOff c j l.val = ![384 * (gk c j l.val).val, 256 * l.val] := by decide +kernel

theorem accOff_eq (c : Dev nD) (i : Fin 4) (y : ℕ) : accOff c i (y % 6) = ![384 * (ck c i (y % 6)).val, 256 * (y % 6)] :=
  accOff_eq6 c i ⟨y % 6, Nat.mod_lt _ (by decide)⟩
theorem agOff_eq (c : Dev nD) {y : ℕ} (h : 18 ≤ y) (h' : y < 36) :
    agOff c (Fin.ofNat 3 (y / 6)) (y % 6) = ![384 * (ob c (y - 6)).val, 256 * (y % 6)] := by
  have H : ∀ (c : Dev nD) (z : Fin 18), agOff c (Fin.ofNat 3 ((z.val + 18) / 6)) ((z.val + 18) % 6) = ![384 * (ob c (z.val + 12)).val, 256 * ((z.val + 18) % 6)] := by
    decide +kernel
  have := H c ⟨y - 18, by omega⟩
  rwa [show y - 18 + 18 = y by omega, show y - 18 + 12 = y - 6 by omega] at this

/-- The last hop of the reduction works on the block the device finishes itself. -/
theorem ck_last (c : Dev nD) {y : ℕ} (h : 12 ≤ y) (h' : y < 18) : ck c 3 (y % 6) = ob c y := by
  have H : ∀ (z : Fin 6) (c : Dev nD), ck c 3 ((z.val + 12) % 6) = ob c (z.val + 12) := by decide +kernel
  have := H ⟨y - 12, by omega⟩ c
  rwa [show y - 12 + 12 = y by omega] at this
/-- A copy carries its block to the same place. -/
theorem ob_step (c : Dev nD) {y : ℕ} (h : 18 ≤ y) (h' : y < 36) : ob c (y - 6) = ob (tgt y c) y := by
  have H : ∀ (c : Dev nD) (z : Fin 18), ob c (z.val + 12) = ob (tgt (z.val + 18) c) (z.val + 18) := by decide +kernel
  have := H c ⟨y - 18, by omega⟩
  rwa [show y - 18 + 18 = y by omega, show y - 18 + 12 = y - 6 by omega] at this
/-- The device that finishes the block of row chunk `ob n y` and `y`'s lane. -/
theorem ob_owner (n : Dev nD) {y : ℕ} (h : 12 ≤ y) (h' : y < 18) : orig y (ob n y) = n := by
  have H : ∀ (c : Dev nD) (z : Fin 6), orig (z.val + 12) (ob c (z.val + 12)) = c := by decide +kernel
  have := H n ⟨y - 12, by omega⟩
  rwa [show y - 12 + 12 = y by omega] at this
theorem ob_inj (n : Dev nD) {y y' : ℕ} (h : 12 ≤ y) (h' : y < 36) (g : 12 ≤ y') (g' : y' < 36) (e : ob n y = ob n y') (e' : y % 6 = y' % 6) : y = y' := by
  have H : ∀ (n : Dev nD) (z z' : Fin 24), ob n (z.val + 12) = ob n (z'.val + 12) → z.val % 6 = z'.val % 6 → z = z' := by decide +kernel
  have := H n ⟨y - 12, by omega⟩ ⟨y' - 12, by omega⟩ (by simpa [show y - 12 + 12 = y by omega, show y' - 12 + 12 = y' by omega] using e)
    (by show (y - 12) % 6 = (y' - 12) % 6; omega)
  have := congrArg Fin.val this
  simp only at this; omega
theorem ob_surj (n k : Dev nD) (l : ℕ) (hl : l < 6) : ∃ y, 12 ≤ y ∧ y < 36 ∧ ob n y = k ∧ y % 6 = l := by
  have H : ∀ (n k : Dev nD) (l : Fin 6), ∃ z : Fin 24, ob n (z.val + 12) = k ∧ (z.val + 12) % 6 = l.val := by decide +kernel
  obtain ⟨z, h1, h2⟩ := H n k ⟨l, hl⟩
  exact ⟨z.val + 12, by omega, by omega, h1, h2⟩

/-- The block of row chunk `k` and column block `l`; the row chunk `k`. -/
theorem blk_inb (k : Dev nD) (y : ℕ) : ∀ a, (![384 * k.val, 256 * (y % 6)] : Fin 2 → ℕ) a + S384x256.size a ≤ S1536x1536.size a := by
  have h : ∀ (k : Dev nD) (l : Fin 6), ∀ a, (![384 * k.val, 256 * l.val] : Fin 2 → ℕ) a + S384x256.size a ≤ S1536x1536.size a := by decide
  exact h k ⟨y % 6, Nat.mod_lt _ (by decide)⟩
abbrev blkR (k : Dev nD) (y : ℕ) : Rect S1536x1536 := Rect.unit (s := S1536x1536) ![384 * k.val, 256 * (y % 6)] S384x256.size (blk_inb k y)
theorem chunk_inb : ∀ k : Dev nD, ∀ a, (![384 * k.val, 0] : Fin 2 → ℕ) a + S384x1536.size a ≤ S1536x1536.size a := by decide
abbrev chunkR (k : Dev nD) : Rect S1536x1536 := Rect.unit (s := S1536x1536) ![384 * k.val, 0] S384x1536.size (chunk_inb k)

theorem set_unit_congr {s : Shape} {off off' size : Fin s.rank → ℕ} (h : off = off') (p : ∀ a, off a + size a ≤ s.size a)
    (p' : ∀ a, off' a + size a ≤ s.size a) : (Rect.unit (s := s) off size p).set = (Rect.unit (s := s) off' size p').set := by
  subst h; rfl

theorem accR_set (c : Dev nD) (i : Fin 4) (y : ℕ) : (accR c i (y % 6)).set = (blkR (ck c i (y % 6)) y).set := set_unit_congr (accOff_eq c i y) _ _
theorem agR_set (c : Dev nD) {y : ℕ} (h : 18 ≤ y) (h' : y < 36) :
    (agR c (Fin.ofNat 3 (y / 6)) (y % 6)).set = (blkR (ob c (y - 6)) y).set := set_unit_congr (agOff_eq c h h') _ _

/-! ## The tilings -/

theorem mem_blk {k : Dev nD} {y : ℕ} {i : S1536x1536.Idx} : i ∈ (blkR k y).set ↔ (i 0).val / 384 = k.val ∧ (i 1).val / 256 = y % 6 := by
  rw [Rect.mem_set_unit]
  constructor
  · intro h
    have h0 : 384 * k.val ≤ (i 0).val ∧ (i 0).val < 384 * k.val + 384 := h 0
    have h1 : 256 * (y % 6) ≤ (i 1).val ∧ (i 1).val < 256 * (y % 6) + 256 := h 1
    omega
  · rintro ⟨h0, h1⟩ a
    fin_cases a
    · show 384 * k.val ≤ (i 0).val ∧ (i 0).val < 384 * k.val + 384; omega
    · show 256 * (y % 6) ≤ (i 1).val ∧ (i 1).val < 256 * (y % 6) + 256; omega
theorem mem_chunk {k : Dev nD} {i : S1536x1536.Idx} : i ∈ (chunkR k).set ↔ (i 0).val / 384 = k.val := by
  rw [Rect.mem_set_unit]
  constructor
  · intro h
    have h0 : 384 * k.val ≤ (i 0).val ∧ (i 0).val < 384 * k.val + 384 := h 0
    omega
  · rintro h0 a
    fin_cases a
    · show 384 * k.val ≤ (i 0).val ∧ (i 0).val < 384 * k.val + 384; omega
    · have : (i 1).val < 1536 := (i 1).isLt
      show 0 ≤ (i 1).val ∧ (i 1).val < 0 + 1536; omega
theorem mem_slot {y : ℕ} {i : S3x2x3x384x256.Idx} :
    i ∈ (slotR y).set ↔ (i 0).val = y / 6 % 3 ∧ (i 1).val = y / 3 % 2 ∧ (i 2).val = y % 3 := by
  rw [Rect.mem_set_unit]
  constructor
  · intro h
    have h0 : y / 6 % 3 ≤ (i 0).val ∧ (i 0).val < y / 6 % 3 + 1 := h 0
    have h1 : y / 3 % 2 ≤ (i 1).val ∧ (i 1).val < y / 3 % 2 + 1 := h 1
    have h2 : y % 3 ≤ (i 2).val ∧ (i 2).val < y % 3 + 1 := h 2
    omega
  · rintro ⟨h0, h1, h2⟩ a
    fin_cases a
    · show y / 6 % 3 ≤ (i 0).val ∧ (i 0).val < y / 6 % 3 + 1; omega
    · show y / 3 % 2 ≤ (i 1).val ∧ (i 1).val < y / 3 % 2 + 1; omega
    · show y % 3 ≤ (i 2).val ∧ (i 2).val < y % 3 + 1; omega
    · have : (i 3).val < 384 := (i 3).isLt
      show 0 ≤ (i 3).val ∧ (i 3).val < 0 + 384; omega
    · have : (i 4).val < 256 := (i 4).isLt
      show 0 ≤ (i 4).val ∧ (i 4).val < 0 + 256; omega

theorem blk_subset_chunk (k : Dev nD) (y : ℕ) : (blkR k y).set ⊆ (chunkR k).set := fun _ h => mem_chunk.mpr (mem_blk.mp h).1

theorem blk_disjoint (n : Dev nD) : ∀ y ∈ Finset.Ico 12 36, ∀ y' ∈ Finset.Ico 12 36, y ≠ y' → Disjoint (blkR (ob n y) y).set (blkR (ob n y') y').set := by
  intro y hy y' hy' hne
  rw [Finset.mem_Ico] at hy hy'
  refine Finset.disjoint_left.mpr fun i h h' => hne ?_
  have h1 := mem_blk.mp h
  have h2 := mem_blk.mp h'
  exact ob_inj n hy.1 hy.2 hy'.1 hy'.2 (Fin.ext (h1.1.symm.trans h2.1)) (h1.2.symm.trans h2.2)
theorem blk_cover (n : Dev nD) : (Finset.Ico 12 36).biUnion (fun y => (blkR (ob n y) y).set) = Finset.univ := by
  ext i
  simp only [Finset.mem_biUnion, Finset.mem_univ, iff_true, Finset.mem_Ico]
  have h0 : (i 0).val < 1536 := (i 0).isLt
  have h1 : (i 1).val < 1536 := (i 1).isLt
  obtain ⟨y, ha, hb, hk, hl⟩ := ob_surj n ⟨(i 0).val / 384, by show _ < 4; omega⟩ ((i 1).val / 256) (by omega)
  exact ⟨y, ⟨ha, hb⟩, mem_blk.mpr ⟨by rw [hk], hl.symm⟩⟩
theorem chunk_disjoint : ∀ k ∈ (Finset.univ : Finset (Dev nD)), ∀ k' ∈ (Finset.univ : Finset (Dev nD)), k ≠ k' → Disjoint (chunkR k).set (chunkR k').set :=
  fun k _ k' _ hne => Finset.disjoint_left.mpr fun i h h' => hne (Fin.ext ((mem_chunk.mp h).symm.trans (mem_chunk.mp h')))
theorem chunk_cover : (Finset.univ : Finset (Dev nD)).biUnion (fun k => (chunkR k).set) = Finset.univ := by
  ext i
  simp only [Finset.mem_biUnion, Finset.mem_univ, iff_true, true_and]
  have h0 : (i 0).val < 1536 := (i 0).isLt
  exact ⟨⟨(i 0).val / 384, by show _ < 4; omega⟩, mem_chunk.mpr rfl⟩
theorem slot_disjoint : ∀ y ∈ Finset.Ico 0 18, ∀ y' ∈ Finset.Ico 0 18, y ≠ y' → Disjoint (slotR y).set (slotR y').set := by
  intro y hy y' hy' hne
  rw [Finset.mem_Ico] at hy hy'
  refine Finset.disjoint_left.mpr fun i h h' => hne ?_
  have h1 := mem_slot.mp h
  have h2 := mem_slot.mp h'
  omega
theorem slot_cover : (Finset.Ico 0 18).biUnion (fun y => (slotR y).set) = Finset.univ := by
  ext i
  simp only [Finset.mem_biUnion, Finset.mem_univ, iff_true, Finset.mem_Ico]
  have h0 : (i 0).val < 3 := (i 0).isLt
  have h1 : (i 1).val < 2 := (i 1).isLt
  have h2 : (i 2).val < 3 := (i 2).isLt
  exact ⟨6 * (i 0).val + 3 * (i 1).val + (i 2).val, by omega, mem_slot.mpr ⟨by omega, by omega, by omega⟩⟩

/-! ## The semaphores -/

theorem sndS_val (y : ℕ) : (sndS y).sem.val = 3 + y % 36 := by
  have H : ∀ k : Fin 36, ((cc0_scratch3.slice (Rect.unit (s := S36) ![k.val] S1.size (by intro a; fin_cases a; show k.val + 1 ≤ 36; omega))).squeeze S_ squeezes_S1_S_).sem.val
      = 3 + k.val := by decide +kernel
  exact H ⟨y % 36, Nat.mod_lt _ (by decide)⟩
theorem rcvS_val (y : ℕ) : (rcvS y).sem.val = 39 + y % 36 := by
  have H : ∀ k : Fin 36, ((cc0_scratch4.slice (Rect.unit (s := S36) ![k.val] S1.size (by intro a; fin_cases a; show k.val + 1 ≤ 36; omega))).squeeze S_ squeezes_S1_S_).sem.val
      = 39 + k.val := by decide +kernel
  exact H ⟨y % 36, Nat.mod_lt _ (by decide)⟩

/-! ## Reading blocks of a whole buffer -/

/-- An index of one shape, its coordinates reduced into another's sizes. -/
def wrap {n : ℕ} {d d' : Fin n → ℕ} (h : ∀ a, 0 < d' a) (i : (⟨n, d⟩ : Shape).Idx) : (⟨n, d'⟩ : Shape).Idx := fun a => ⟨(i a).val % d' a, Nat.mod_lt _ (h a)⟩

theorem wrap_emb {n : ℕ} {d d' off : Fin n → ℕ} (h : ∀ a, 0 < d' a) (p : ∀ a, off a + d' a ≤ d a) (hd : ∀ a, d' a ∣ off a)
    (j : (⟨n, d'⟩ : Shape).Idx) : wrap h ((Rect.unit (s := ⟨n, d⟩) off d' p).emb j) = j := by
  funext a
  refine Fin.ext ?_
  show (off a + 1 * (j a).val) % d' a = (j a).val
  obtain ⟨q, hq⟩ := hd a
  have hj : (j a).val < d' a := (j a).isLt
  rw [Nat.one_mul, hq, Nat.mul_add_mod, Nat.mod_eq_of_lt hj]

end Cert.RingMM

end
-- ==== Proof.Common.lean ====
/-
# `Common`: contents, protocol and levels

What every buffer holds as the program goes, who hands what to whom through which semaphore, and in which order
the waits come.

Each device multiplies its own columns of `A` by its own rows of `B` (`accF`). A block of the sum travels around
the ring in three hops (`T`), every device adding its own product to what has come; the last adds and clamps
(`U`), and the finished blocks (`outF`) travel around the ring once more.

The cells. A device's BARRIER cell has two duties, one per direction: a neighbour's signal hands over the
buffers of that neighbour that the device's copies in that direction will fill. A copy's RECEIVE cell, on the
device it goes to, hands that device the filled buffer; its SEND cell hands its source back.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

-- The operands' shards as each device holds them.
variable (a : Dev nD → Vec F S1536x768 .bf16) (b : Dev nD → Vec F S768x1536 .bf16)

theorem pos2 : ∀ i, 0 < S384x1536.size i := by decide
theorem posB : ∀ i, 0 < S384x256.size i := by decide
theorem pos5 : ∀ i, 0 < S1x1x1x384x256.size i := by decide
theorem aRow_inb : ∀ k : Dev nD, ∀ i, (![384 * k.val, 0] : Fin 2 → ℕ) i + S384x768.size i ≤ S1536x768.size i := by decide

/-- The product of row chunk `k` of device `c`'s shards. -/
def prod (c k : Dev nD) : Vec F S384x1536 .bf16 :=
  k0_pay9 (k0_pay1 (b c)) (aM.view.readAt (Elt F) (Rect.unit (s := S1536x768) ![384 * k.val, 0] S384x768.size (aRow_inb k)).toLoadRect (a c))

/-- The accumulator of device `c` when all of it is filled: the product of its shards. -/
def accF (c : Dev nD) : Vec F S1536x1536 .bf16 := fun i => prod a b c (Fin.ofNat 4 ((i 0).val / 384)) (wrap pos2 i)

/-- The block of its own product that lane `l` of device `c` uses at hop `i`. -/
def pblk (c : Dev nD) (i : Fin 4) (l : ℕ) : Vec F S384x256 .bf16 := accM.view.readAt (Elt F) (accR c i l).toLoadRect (accF a b c)

/-- What device `c` sends at hop `h` of the reduction on lane `l`. -/
def T : ℕ → Dev nD → ℕ → Vec F S1x1x1x384x256 .bf16
  | 0, c, l => k0_pay3 (pblk a b c 0 l)
  | h + 1, c, l => k0_pay12 (pblk a b c (Fin.ofNat 4 (h + 1)) l) (T h (orig l c) l)

/-- The block device `c` finishes on lane `l`. -/
def U (c : Dev nD) (l : ℕ) : Vec F S384x256 .bf16 := k0_pay27 (pblk a b c 3 l) (T a b 2 (orig l c) l)

/-- The staging buffer of device `c`, all slots filled; -/
def stgF (c : Dev nD) : Vec F S3x2x3x384x256 .bf16 := fun i => T a b (i 0).val c (3 * (i 1).val + (i 2).val) (wrap pos5 i)
/-- its landing buffer, all slots filled; -/
def comF (c : Dev nD) : Vec F S3x2x3x384x256 .bf16 := fun i => stgF a b (orig (3 * (i 1).val + (i 2).val) c) i
/-- the result, the same on every device. -/
def outF : Vec F S1536x1536 .bf16 := fun i => U a b (orig ((i 1).val / 256) (Fin.ofNat 4 ((i 0).val / 384))) ((i 1).val / 256) (wrap posB i)

/-! ## Buffers in parts -/

/-- Device `c`'s staging slot, landing slot, result block of copy `y`, and row chunk `k` of its accumulator, holding `f` there. -/
def stgP (c : Dev nD) (y : ℕ) (f : Vec F S3x2x3x384x256 .bf16) : sProp 𝕄 := stgM.view.loc (c : Thread nD τ) ↦[(slotR y).set]{fullShare} f
def comP (c : Dev nD) (y : ℕ) (f : Vec F S3x2x3x384x256 .bf16) : sProp 𝕄 := comM.view.loc (c : Thread nD τ) ↦[(slotR y).set]{fullShare} f
def outP (c : Dev nD) (y : ℕ) (f : Vec F S1536x1536 .bf16) : sProp 𝕄 := oM.view.loc (c : Thread nD τ) ↦[(blkR (ob c y) y).set]{fullShare} f
def accP (c k : Dev nD) (f : Vec F S1536x1536 .bf16) : sProp 𝕄 := accM.view.loc (c : Thread nD τ) ↦[(chunkR k).set]{fullShare} f

omit [FloatOps F] in
instance stgP_storable (c : Dev nD) (y f) : BI.Storable (upEmb : UEmb _ 𝕄) (stgP (F := F) c y f) := by unfold stgP; infer_instance
omit [FloatOps F] in
instance comP_storable (c : Dev nD) (y f) : BI.Storable (upEmb : UEmb _ 𝕄) (comP (F := F) c y f) := by unfold comP; infer_instance
omit [FloatOps F] in
instance outP_storable (c : Dev nD) (y f) : BI.Storable (upEmb : UEmb _ 𝕄) (outP (F := F) c y f) := by unfold outP; infer_instance

/-- Where copy `y` lands on device `n`, whatever it holds. -/
def landP (n : Dev nD) (y : ℕ) : sProp 𝕄 := if y < 18 then iprop(∃ f, comP n y f) else iprop(∃ f, outP n y f)
omit [FloatOps F] in
instance landP_storable (c : Dev nD) (y) : BI.Storable (upEmb : UEmb _ 𝕄) (landP (F := F) c y) := by unfold landP; split <;> infer_instance

/-! ## Cells -/

abbrev barCell (c : Dev nD) : GSem nD τ sig := ((c : Thread nD τ), .reg barS.sem)
abbrev sndCell (c : Dev nD) (y : ℕ) : GSem nD τ sig := ((c : Thread nD τ), .dma (sndS y).sem)
abbrev rcvCell (c : Dev nD) (y : ℕ) : GSem nD τ sig := ((c : Thread nD τ), .dma (rcvS y).sem)

/-- One copy's credit. -/
abbrev N : ℕ := (comS 0).view.dmaCredit
theorem N_pos : 0 < N := View.dmaCredit_pos _ (by decide)

/-- The copies that travel in direction `d`. -/
def dirSet (d : Bool) : Finset ℕ := (Finset.Ico 0 36).filter fun y => dir y = d

/-! ## The schedule -/

/-- What the signal in direction `d` hands device `c`: the neighbour's landing areas of `c`'s copies in that direction. -/
def barPay (c : Dev nD) (d : Bool) : sProp 𝕄 := bigSep (dirSet d) (landP (nx d c))
/-- What the arrival of copy `y` hands device `c`. -/
def rcvPay (c : Dev nD) (y : ℕ) : sProp 𝕄 := if y < 18 then comP c y (comF a b c) else outP c y (outF a b)
/-- What the departure of copy `y` hands device `c` back. -/
def sndPay (c : Dev nD) (y : ℕ) : sProp 𝕄 := if y < 18 then stgP c y (stgF a b c) else outP c (y - 6) (outF a b)

instance barPay_storable (c : Dev nD) (d : Bool) : BI.Storable (upEmb : UEmb _ 𝕄) (barPay (F := F) c d) := by unfold barPay; infer_instance
instance rcvPay_storable (c : Dev nD) (y : ℕ) : BI.Storable (upEmb : UEmb _ 𝕄) (rcvPay (F := F) a b c y) := by unfold rcvPay; split <;> infer_instance
instance sndPay_storable (c : Dev nD) (y : ℕ) : BI.Storable (upEmb : UEmb _ 𝕄) (sndPay (F := F) a b c y) := by unfold sndPay; split <;> infer_instance

/-- The duties of a semaphore: the barrier two, a copy's one. -/
def dutiesOf : SemLoc sig → Finset Bool
  | .reg _ => Finset.univ
  | .dma q => if 3 ≤ q.val then {false} else ∅
def payOf (c : Dev nD) (d : Bool) : SemLoc sig → sProp 𝕄
  | .reg _ => barPay c d
  | .dma q => if q.val < 39 then sndPay a b c (q.val - 3) else rcvPay a b c (q.val - 39)
def amountOf' : SemLoc sig → ℕ
  | .reg _ => 1
  | .dma _ => N

/-- One round, round 0. -/
def ringRd : Rounds.Schedule (GSem nD τ sig) Bool 𝕄 where
  duties g r := if r = 0 ∧ g.1.2 = .tc then dutiesOf g.2 else ∅
  unitless _ := False
  amount g _ _ := amountOf' g.2
  payload g _ d := payOf a b g.1.1 d g.2
  amount_pos g _ _ _ := by
    cases hs : g.2 with
    | reg s => exact Nat.one_pos
    | dma q => exact N_pos

instance ringRd_payload_storable (g : GSem nD τ sig) (r : ℕ) (d : Bool) : BI.Storable (upEmb : UEmb _ 𝕄) ((ringRd (F := F) a b).payload g r d) := by
  show BI.Storable upEmb (payOf a b g.1.1 d g.2)
  unfold payOf
  split
  · infer_instance
  · split <;> infer_instance

section Sched
variable (c : Dev nD)

theorem duties_bar : (ringRd (F := F) a b).duties (barCell c) 0 = Finset.univ := rfl
theorem duties_snd (y : ℕ) : (ringRd (F := F) a b).duties (sndCell c y) 0 = {false} := by
  dsimp only [ringRd]; rw [if_pos ⟨rfl, rfl⟩]; exact if_pos (by rw [sndS_val]; omega)
theorem duties_rcv (y : ℕ) : (ringRd (F := F) a b).duties (rcvCell c y) 0 = {false} := by
  dsimp only [ringRd]; rw [if_pos ⟨rfl, rfl⟩]; exact if_pos (by rw [rcvS_val]; omega)
theorem duties_later (g : GSem nD τ sig) : ∀ r, 1 ≤ r → (ringRd (F := F) a b).duties g r = ∅ :=
  fun r hr => if_neg fun h => by omega

theorem amount_bar (d : Bool) : (ringRd (F := F) a b).amount (barCell c) 0 d = 1 := rfl
theorem amount_snd (y : ℕ) (d : Bool) : (ringRd (F := F) a b).amount (sndCell c y) 0 d = N := rfl
theorem amount_rcv (y : ℕ) (d : Bool) : (ringRd (F := F) a b).amount (rcvCell c y) 0 d = N := rfl

theorem expect_bar : (ringRd (F := F) a b).expect (barCell c) 0 = 2 := by
  unfold Schedule.expect Schedule.amountOf
  rw [duties_bar, Finset.sum_congr rfl fun d _ => amount_bar a b c d, Finset.sum_const, Finset.card_univ, Fintype.card_bool, smul_eq_mul]
theorem expect_snd (y : ℕ) : (ringRd (F := F) a b).expect (sndCell c y) 0 = N := by
  unfold Schedule.expect Schedule.amountOf; rw [duties_snd, Finset.sum_singleton, amount_snd]
theorem expect_rcv (y : ℕ) : (ringRd (F := F) a b).expect (rcvCell c y) 0 = N := by
  unfold Schedule.expect Schedule.amountOf; rw [duties_rcv, Finset.sum_singleton, amount_rcv]

theorem payload_bar (d : Bool) : (ringRd (F := F) a b).payload (barCell c) 0 d = barPay c d := rfl
theorem payload_snd {y : ℕ} (hy : y < 36) (d : Bool) : (ringRd (F := F) a b).payload (sndCell c y) 0 d = sndPay a b c y := by
  show (if (sndS y).sem.val < 39 then sndPay a b c ((sndS y).sem.val - 3) else rcvPay a b c ((sndS y).sem.val - 39)) = _
  rw [sndS_val, Nat.mod_eq_of_lt hy, if_pos (by omega)]; congr 1; omega
theorem payload_rcv {y : ℕ} (hy : y < 36) (d : Bool) : (ringRd (F := F) a b).payload (rcvCell c y) 0 d = rcvPay a b c y := by
  show (if (rcvS y).sem.val < 39 then sndPay a b c ((rcvS y).sem.val - 3) else rcvPay a b c ((rcvS y).sem.val - 39)) = _
  rw [rcvS_val, Nat.mod_eq_of_lt hy, if_neg (by omega)]; congr 1; omega

theorem rest_bar : bigSep ((ringRd (F := F) a b).duties (barCell c) 0 \ ∅) (fun d => (ringRd (F := F) a b).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_snd {y : ℕ} (hy : y < 36) :
    bigSep ((ringRd (F := F) a b).duties (sndCell c y) 0 \ ∅) (fun d => (ringRd (F := F) a b).payload (sndCell c y) 0 d) = sndPay a b c y := by
  rw [Finset.sdiff_empty, duties_snd, bigSep_singleton, payload_snd a b c hy]
theorem rest_rcv {y : ℕ} (hy : y < 36) :
    bigSep ((ringRd (F := F) a b).duties (rcvCell c y) 0 \ ∅) (fun d => (ringRd (F := F) a b).payload (rcvCell c y) 0 d) = rcvPay a b c y := by
  rw [Finset.sdiff_empty, duties_rcv, bigSep_singleton, payload_rcv a b c hy]

end Sched

/-! ## What a device owes; levels -/

/-- What device `c` owes from its copy `n` on: each copy's credit to the receive cell where it goes. -/
def owe (n : ℕ) (c : Dev nD) : CellTallies nD τ sig Unit := ∑ y ∈ Finset.Ico n 36, tallyAt (rcvCell (tgt y c) y) () N
/-- At launch, besides, a unit to each neighbour's barrier. -/
def O₁ (c : Dev nD) : CellTallies nD τ sig Unit := owe 0 c + tallyAt (barCell (nx false c)) () 1
def O₀ (c : Dev nD) : CellTallies nD τ sig Unit := O₁ c + tallyAt (barCell (nx true c)) () 1

theorem owe_succ {n : ℕ} (h : n < 36) (c : Dev nD) : owe n c = owe (n + 1) c + tallyAt (rcvCell (tgt n c) n) () N := by
  unfold owe
  have hI : Finset.Ico n 36 = insert n (Finset.Ico (n + 1) 36) := by ext i; simp only [Finset.mem_insert, Finset.mem_Ico]; omega
  rw [hI, Finset.sum_insert (by simp), add_comm]
theorem owe_end {n : ℕ} (h : 36 ≤ n) (c : Dev nD) : owe n c = 0 := by unfold owe; rw [Finset.Ico_eq_empty (by omega), Finset.sum_empty]

def L (g : GSem nD τ sig) : Finset Unit := if g.1.2 = .tc then {()} else ∅
/-- Levels of semaphores: barrier 1, the receive semaphore of copy `y` at `2 + y`, everything else 0. -/
def lvS : SemLoc sig → ℕ
  | .reg _ => 1
  | .dma q => if 39 ≤ q.val then 2 + (q.val - 39) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) {y : ℕ} (hy : y < 36) (u : Unit) : lv (rcvCell c y) u = 2 + y := by
  show (if 39 ≤ (rcvS y).sem.val then 2 + ((rcvS y).sem.val - 39) else 0) = _
  rw [rcvS_val, Nat.mod_eq_of_lt hy, if_pos (by omega)]; omega
theorem lv_bar (c : Dev nD) (u : Unit) : lv (barCell c) u = 1 := rfl

theorem owe_pos {n : ℕ} {c : Dev nD} {g : GSem nD τ sig} {u : Unit} (h : 0 < owe n c g u) :
    ∃ y, n ≤ y ∧ y < 36 ∧ g = rcvCell (tgt y c) y := by
  by_contra hn
  unfold owe at h
  rw [Finset.sum_apply, Finsupp.finset_sum_apply, Finset.sum_eq_zero] at h
  · exact Nat.lt_irrefl 0 h
  · intro y hy
    rw [Finset.mem_Ico] at hy
    rw [tallyAt_apply, if_neg fun h' => hn ⟨y, hy.1, hy.2, h'.1⟩]

theorem O₀_pos {c : Dev nD} {g : GSem nD τ sig} {u : Unit} (h : 0 < O₀ c g u) :
    (∃ y, y < 36 ∧ g = rcvCell (tgt y c) y) ∨ ∃ d, g = barCell (nx d c) := by
  by_contra hn
  rw [not_or, not_exists, not_exists] at hn
  unfold O₀ O₁ at h
  rw [Pi.add_apply, Finsupp.add_apply, Pi.add_apply, Finsupp.add_apply, tallyAt_apply, tallyAt_apply, if_neg fun h' => hn.2 _ h'.1, if_neg fun h' => hn.2 _ h'.1] at h
  obtain ⟨y, -, h1, h2⟩ := owe_pos (by simpa using h)
  exact hn.1 y ⟨h1, h2⟩

/-- A wait on a semaphore below every cell still owed is allowed. -/
theorem mayWait_cut (k : ℕ) (c : Dev nD) (sm : SemLoc sig) (hs : lvS sm ≤ k) (O : CellTallies nD τ sig Unit)
    (h : ∀ g u, 0 < O g u → (∃ (c' : Dev nD) (sm' : SemLoc sig), g = ((c' : Thread nD τ), sm') ∧ k < lvS sm')) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by obtain ⟨c', sm', rfl, -⟩ := h g u hg; rw [L_tc]; exact Finset.mem_singleton_self _)
    (fun p hp => by rw [Finset.mem_singleton.mp hp]; exact hs)
    (fun g u hg => by obtain ⟨c', sm', rfl, h'⟩ := h g u hg; exact h')

theorem mayWait_stage (c : Dev nD) (q : DmaSem sig) (hq : q.val < 39) (O : CellTallies nD τ sig Unit) (hO : O = O₀ c ∨ O = 0) :
    (levAts L lv : sProp 𝕄) ⊢ MayWait (c : Thread nD τ) (.dma q) () O := by
  rcases hO with rfl | rfl
  · refine mayWait_cut 0 c _ (show lvS (.dma q) ≤ 0 from le_of_eq (if_neg (Nat.not_le.mpr hq))) _ fun g u hg => ?_
    rcases O₀_pos hg with ⟨y, hy, rfl⟩ | ⟨d, rfl⟩
    · exact ⟨_, _, rfl, by have := lv_rcv (tgt y c) hy u; unfold lv at this; rw [this]; omega⟩
    · exact ⟨_, _, rfl, by show 0 < 1; decide⟩
  · rw [MayWait_zero]; iintro -; iempintro

theorem mayWait_bar (c : Dev nD) : (levAts L lv : sProp 𝕄) ⊢ MayWait (c : Thread nD τ) (.reg barS.sem) () (owe 0 c) :=
  mayWait_cut 1 c _ (le_refl 1) _ fun g u hg => by
    obtain ⟨y, -, hy, rfl⟩ := owe_pos hg
    exact ⟨_, _, rfl, by have := lv_rcv (tgt y c) hy u; unfold lv at this; rw [this]; omega⟩

theorem mayWait_rcv (c : Dev nD) {n y : ℕ} (hy : y < 36) (hn : y < n) : (levAts L lv : sProp 𝕄) ⊢ MayWait (c : Thread nD τ) (.dma (rcvS y).sem) () (owe n c) :=
  mayWait_cut (2 + y) c _ (le_of_eq (lv_rcv c hy ())) _ fun g u hg => by
    obtain ⟨z, h1, h2, rfl⟩ := owe_pos hg
    exact ⟨_, _, rfl, by have := lv_rcv (tgt z c) h2 u; unfold lv at this; rw [this]; omega⟩

end Cert.RingMM

end
-- ==== Proof.Values.lean ====
/-
# `Values`: what the operations read and leave, as parts of the whole contents
-/
module

public import proofs.«01_k».proof.Proof.Common

@[expose] public section

noncomputable section

namespace Cert.RingMM

open Cert.KernelIdeal Cert.KernelIdeal.Gen
open Idealize.ShloMosaic
open Idealize.ShloMosaic.TcCoe

variable {F : FTy → Type} [FloatOps F]
variable (a : Dev nD → Vec F S1536x768 .bf16) (b : Dev nD → Vec F S768x1536 .bf16)

/-- A write through a view leaves the contents `g` on the view's elements, if `g` reads as what was written. -/
theorem write_agree {sig : RefSig} {κ : Kind} {sp : Space} {s : Shape} {e : EltTy} {Val : EltTy → Type} (v : View sig κ sp s e) (f g : v.ty.Contents Val)
    (w : s.Idx → Val e) (h : ∀ x, v.read Val g x = w x) : ∀ i ∈ v.set, v.write Val f w Finset.univ i = g i := by
  intro i hi
  obtain ⟨x, -, rfl⟩ := Finset.mem_map.mp hi
  exact View.eq_of_read_eq ((View.read_write_of_mem f w (Finset.mem_univ x)).trans (h x).symm)

theorem acc_read (c k : Dev nD) (x : S384x1536.Idx) : (accM.access (chunkR k)).read (Elt F) (accF a b c) x = prod a b c k x := by
  show accF a b c ((chunkR k).emb x) = _
  unfold accF
  have h0 : (((chunkR k).emb x) 0).val = 384 * k.val + 1 * (x 0).val := rfl
  have hx : (x 0).val < 384 := (x 0).isLt
  have hk : (Fin.ofNat 4 ((((chunkR k).emb x) 0).val / 384) : Dev nD) = k := by
    refine Fin.ext ?_
    rw [h0]; show (384 * k.val + 1 * (x 0).val) / 384 % 4 = k.val
    have : k.val < 4 := k.isLt
    omega
  rw [hk]
  congr 1
  exact wrap_emb pos2 (chunk_inb k) (fun i => by fin_cases i; exacts [⟨k.val, rfl⟩, ⟨0, rfl⟩]) x

theorem stg_idx (c : Dev nD) (y : ℕ) (x : S1x1x1x384x256.Idx) : stgF a b c ((slotR y).emb x) = T a b (y / 6 % 3) c (y % 6) x := by
  unfold stgF
  have x0 : (x 0).val < 1 := (x 0).isLt
  have x1 : (x 1).val < 1 := (x 1).isLt
  have x2 : (x 2).val < 1 := (x 2).isLt
  have h0 : (((slotR y).emb x) 0).val = y / 6 % 3 := by show y / 6 % 3 + 1 * (x 0).val = _; omega
  have h1 : (((slotR y).emb x) 1).val = y / 3 % 2 := by show y / 3 % 2 + 1 * (x 1).val = _; omega
  have h2 : (((slotR y).emb x) 2).val = y % 3 := by show y % 3 + 1 * (x 2).val = _; omega
  rw [h0, h1, h2, show 3 * (y / 3 % 2) + y % 3 = y % 6 by omega]
  congr 1
  exact wrap_emb pos5 (slotOff_inb y) (fun i => by fin_cases i; exacts [one_dvd _, one_dvd _, one_dvd _, ⟨0, rfl⟩, ⟨0, rfl⟩]) x

theorem com_idx (c : Dev nD) (y : ℕ) (x : S1x1x1x384x256.Idx) : comF a b c ((slotR y).emb x) = stgF a b (orig y c) ((slotR y).emb x) := by
  unfold comF
  have x1 : (x 1).val < 1 := (x 1).isLt
  have x2 : (x 2).val < 1 := (x 2).isLt
  have h1 : (((slotR y).emb x) 1).val = y / 3 % 2 := by show y / 3 % 2 + 1 * (x 1).val = _; omega
  have h2 : (((slotR y).emb x) 2).val = y % 3 := by show y % 3 + 1 * (x 2).val = _; omega
  rw [h1, h2, show 3 * (y / 3 % 2) + y % 3 = y % 6 by omega, orig_mod]

theorem stg_read (c : Dev nD) (y : ℕ) (x : S1x1x1x384x256.Idx) : (stgM.access (slotR y)).read (Elt F) (stgF a b c) x = T a b (y / 6 % 3) c (y % 6) x :=
  stg_idx a b c y x

theorem com_read (c : Dev nD) {y : ℕ} (hy : y < 18) :
    comM.view.readAt (Elt F) (slotR y).toLoadRect (comF a b c) = T a b (y / 6) (orig (y % 6) c) (y % 6) := by
  funext x
  show comF a b c ((slotR y).emb x) = _
  rw [com_idx, stg_idx, orig_mod, Nat.mod_eq_of_lt (show y / 6 < 3 by omega)]

/-- What arrives is what was staged. -/
theorem copy_read (c : Dev nD) (y : ℕ) (x : S384x256.Idx) :
    (comS y).view.read (Elt F) (comF a b (tgt y c)) x = (stgS y).view.read (Elt F) (stgF a b c) x := by
  show comF a b (tgt y c) ((slotR y).emb _) = stgF a b c ((slotR y).emb _)
  rw [com_idx, orig_tgt]

theorem out_read (c : Dev nD) {y : ℕ} (h : 12 ≤ y) (h' : y < 18) (x : S384x256.Idx) :
    (oM.access (accR c 3 (y % 6))).read (Elt F) (outF a b) x = U a b c (y % 6) x := by
  show outF a b ((accR c 3 (y % 6)).emb x) = _
  unfold outF
  have x0 : (x 0).val < 384 := (x 0).isLt
  have x1 : (x 1).val < 256 := (x 1).isLt
  have e := accOff_eq c 3 y
  rw [ck_last c h h'] at e
  have h0 : (((accR c 3 (y % 6)).emb x) 0).val = 384 * (ob c y).val + 1 * (x 0).val := by
    show accOff c 3 (y % 6) 0 + _ = _; rw [e]; rfl
  have h1 : (((accR c 3 (y % 6)).emb x) 1).val = 256 * (y % 6) + 1 * (x 1).val := by
    show accOff c 3 (y % 6) 1 + _ = _; rw [e]; rfl
  have hk : (Fin.ofNat 4 ((((accR c 3 (y % 6)).emb x) 0).val / 384) : Dev nD) = ob c y := by
    refine Fin.ext ?_
    rw [h0]; show (384 * (ob c y).val + 1 * (x 0).val) / 384 % 4 = (ob c y).val
    have : (ob c y).val < 4 := (ob c y).isLt
    omega
  rw [hk, h1, show (256 * (y % 6) + 1 * (x 1).val) / 256 = y % 6 by omega, orig_mod, ob_owner c h h']
  congr 1
  exact wrap_emb posB (accOff_inb c 3 (y % 6)) (fun i => by rw [e]; fin_cases i; exacts [⟨(ob c y).val, rfl⟩, ⟨y % 6, rfl⟩]) x

/-! ## Sets -/

theorem set_access_whole {r : Ref sig .tc} (R : Rect r.ty.shape) : ((Memref.whole r : Memref sig .tc _ _ _).access R).set = R.set := by
  show ((View.whole r).slice R).set = _
  rw [View.set_slice]; exact Finset.map_refl
theorem setOn_whole {r : Ref sig .tc} (R : Rect r.ty.shape) : (Memref.whole r : Memref sig .tc _ _ _).view.setOn R.toLoadRect.set = R.set := by
  show Finset.map _ R.set = _
  exact Finset.map_refl

theorem stgS_set (y : ℕ) : (stgS y).view.set = (slotR y).set := (View.set_reshape _ _).trans (set_access_whole (r := cc0_scratch1) (slotR y))
theorem comS_set (y : ℕ) : (comS y).view.set = (slotR y).set := (View.set_reshape _ _).trans (set_access_whole (r := cc0_scratch2) (slotR y))
theorem agS_set (c : Dev nD) {y : ℕ} (h : 18 ≤ y) (h' : y < 36) : (agS c y).view.set = (blkR (ob c (y - 6)) y).set :=
  (set_access_whole (r := cc0_stg2_0) (agR c (Fin.ofNat 3 (y / 6)) (y % 6))).trans (agR_set c h h')

end Cert.RingMM

end
-- ==== Proof.Steps.lean ====
/-
# `Steps`: what each operation of the body does

One rule per operation of `Clean`: from what it needs to what it leaves, before any continuation.
-/
module

public import proofs.«01_k».proof.Proof.Values

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (a : Dev nD → Vec F S1536x768 .bf16) (b : Dev nD → Vec F S768x1536 .bf16)

/-- The program `p` run by device `c`. -/
abbrev wpc (c : Dev nD) {α : Type} (p : P F α) (Q : α → sProp 𝕄) : sProp 𝕄 :=
  wp frame (wpE (defs₀ (F := F)) 𝒱₀ (c : Thread nD τ) none) Set.univ p Q

/-! ## The cells by number, and their invariants -/

/-- The semaphores of the protocol: the barrier, the send semaphores, the receive semaphores. -/
def csem (k : Fin 73) : SemLoc sig := if k.val = 0 then .reg barS.sem else .dma ⟨k.val + 2, by have := k.isLt; show k.val + 2 < 75; omega⟩
abbrev kcell (ck : Dev nD × Fin 73) : GSem nD τ sig := ((ck.1 : Thread nD τ), csem ck.2)
/-- The numbers of copy `y`'s send and receive semaphore. -/
def sI (y : ℕ) : Fin 73 := ⟨1 + y % 36, by omega⟩
def rI (y : ℕ) : Fin 73 := ⟨37 + y % 36, by omega⟩

theorem csem_bar : csem 0 = .reg barS.sem := rfl
theorem csem_snd (y : ℕ) : csem (sI y) = .dma (sndS y).sem := by
  unfold csem sI; rw [if_neg (by simp)]
  refine congrArg SemLoc.dma (Fin.ext ?_)
  rw [sndS_val]; show 1 + y % 36 + 2 = _; omega
theorem csem_rcv (y : ℕ) : csem (rI y) = .dma (rcvS y).sem := by
  unfold csem rI; rw [if_neg (by simp)]
  refine congrArg SemLoc.dma (Fin.ext ?_)
  rw [rcvS_val]; show 37 + y % 36 + 2 = _; omega

/-- Every cell's invariant, and that every cell has reached its round 0. -/
def records (K : Dev nD × Fin 73 → ℕ) : sProp 𝕄 :=
  iprop((bigSep Finset.univ fun ck : Dev nD × Fin 73 => cellInv ER (ringRd a b) (K ck) (kcell ck))
    ∗ bigSep Finset.univ fun ck : Dev nD × Fin 73 => reached ER (kcell ck) 0)

instance records_persistent (K : Dev nD × Fin 73 → ℕ) : BI.Persistent (records a b K) := by unfold records; infer_instance

variable (K : Dev nD × Fin 73 → ℕ)

theorem records_at (ck : Dev nD × Fin 73) (g : GSem nD τ sig) (h : kcell ck = g) :
    records a b K ⊢ iprop(cellInv ER (ringRd a b) (K ck) g ∗ reached ER g 0) := by
  subst h
  exact BIClass.sep_mono (bigSep_elim (Finset.mem_univ ck)) (bigSep_elim (Finset.mem_univ ck))

theorem records_bar (c : Dev nD) : records a b K ⊢ iprop(cellInv ER (ringRd a b) (K (c, 0)) (barCell c) ∗ reached ER (barCell c) 0) := records_at a b K (c, 0) _ rfl
theorem records_snd (c : Dev nD) (y : ℕ) : records a b K ⊢ iprop(cellInv ER (ringRd a b) (K (c, sI y)) (sndCell c y) ∗ reached ER (sndCell c y) 0) :=
  records_at a b K (c, sI y) _ (by show (_, csem (sI y)) = _; rw [csem_snd])
theorem records_rcv (c : Dev nD) (y : ℕ) : records a b K ⊢ iprop(cellInv ER (ringRd a b) (K (c, rI y)) (rcvCell c y) ∗ reached ER (rcvCell c y) 0) :=
  records_at a b K (c, rI y) _ (by show (_, csem (rI y)) = _; rw [csem_rcv])

/-! ## What a device holds between operations -/

/-- Device `c` still owes its copies from `n` on. -/
def ow (c : Dev nD) (n : ℕ) : sProp 𝕄 := iprop(∃ W, owes (c : Thread nD τ) (owe n c) W)
/-- What sending copy `y` takes, besides its source: the two tokens and the landing area. -/
def sendRes (c : Dev nD) (y : ℕ) : sProp 𝕄 := iprop(dutyTok ER (sndCell c y) 0 false ∗ dutyTok ER (rcvCell (tgt y c) y) 0 false ∗ landP (tgt y c) y)
/-- What waiting for the arrival, the departure of copy `y` takes. -/
def rcvRes (c : Dev nD) (y : ℕ) : sProp 𝕄 := iprop(atPos ER (rcvCell c y) 0 ∅ 0 ∗ cred (tallyAt (rcvCell c y) () N))
def sntRes (c : Dev nD) (y : ℕ) : sProp 𝕄 := iprop(atPos ER (sndCell c y) 0 ∅ 0 ∗ cred (tallyAt (sndCell c y) () N))
/-- The accumulator of device `c`, its row chunks `S` filled. -/
def accS (c : Dev nD) (S : Finset (Dev nD)) : sProp 𝕄 :=
  iprop(∃ f : Vec F S1536x1536 .bf16, ⌜∀ k ∈ S, ∀ i ∈ (chunkR k).set, f i = accF a b c i⌝ ∗ (accM.view.loc (c : Thread nD τ) ↦{fullShare} f))

/-! ## The local operations -/

theorem readAt_agree {r : Ref sig .tc} (R : Rect r.ty.shape) (f g : r.ty.Contents (Elt F)) (h : ∀ i ∈ R.set, f i = g i) :
    (Memref.whole r : Memref sig .tc _ _ _).view.readAt (Elt F) R.toLoadRect f = (Memref.whole r : Memref sig .tc _ _ _).view.readAt (Elt F) R.toLoadRect g := by
  funext x
  exact h (R.emb x) (R.map_emb_univ ▸ Finset.mem_map_of_mem _ (Finset.mem_univ x))

theorem write_off {r : Ref sig .tc} (R : Rect r.ty.shape) (f : r.ty.Contents (Elt F)) (w : R.shape.Idx → Elt F r.ty.elt) {i : r.ty.Idx} (h : i ∉ R.set) :
    ((Memref.whole r : Memref sig .tc _ _ _).access R).write (Elt F) f w Finset.univ i = f i :=
  View.write_of_not_mem (v := ((Memref.whole r : Memref sig .tc _ _ _).access R)) f w Finset.univ
    (by show i ∉ ((Memref.whole r : Memref sig .tc _ _ _).access R).set; rw [set_access_whole]; exact h)

theorem stored {r : Ref sig .tc} (t : Dev nD) (R : Rect r.ty.shape) (f g : r.ty.Contents (Elt F)) (w : R.shape.Idx → Elt F r.ty.elt) (h : ∀ x, g (R.emb x) = w x) :
    ((Memref.whole r : Memref sig .tc _ _ _).view.loc (t : Thread nD τ) ↦[R.set]{fullShare} ((Memref.whole r : Memref sig .tc _ _ _).access R).write (Elt F) f w Finset.univ : sProp 𝕄)
      ⊢ ((Memref.whole r : Memref sig .tc _ _ _).view.loc (t : Thread nD τ) ↦[R.set]{fullShare} g) := by
  refine Entails.of_eq (pointsTo_congr fun i hi => ?_)
  exact write_agree ((Memref.whole r : Memref sig .tc _ _ _).access R) f g w h i (by rw [set_access_whole]; exact hi)

section Ops
variable (c : Dev nD) {α : Type} (k : PUnit.{1} → P F α) (Q : α → sProp (MT nD τ sig Unit (Elt F) ℕ UU ℕ))

theorem acc_value {f : Vec F S1536x1536 .bf16} {S : Finset (Dev nD)} (h : ∀ k ∈ S, ∀ i ∈ (chunkR k).set, f i = accF a b c i) (i : Fin 4) (y : ℕ)
    (hk : ck c i (y % 6) ∈ S) : accM.view.readAt (Elt F) (accR c i (y % 6)).toLoadRect f = pblk a b c i (y % 6) :=
  readAt_agree (r := cc0_scratch0) (accR c i (y % 6)) f (accF a b c) fun j hj => h _ hk j (blk_subset_chunk _ y (accR_set c i y ▸ hj))

theorem acc_insert {f : Vec F S1536x1536 .bf16} {S : Finset (Dev nD)} (hf : ∀ k ∈ S, ∀ i ∈ (chunkR k).set, f i = accF a b c i) (q : Dev nD) :
    ∀ k ∈ insert q S, ∀ i ∈ (chunkR k).set, (accM.access (chunkR q)).write (Elt F) f (prod a b c q) Finset.univ i = accF a b c i := by
  intro k' hk' i hi
  by_cases hq : i ∈ (chunkR q).set
  · exact write_agree (accM.access (chunkR q)) f (accF a b c) _ (acc_read a b c q) i (by rw [set_access_whole (r := cc0_scratch0) (chunkR q)]; exact hq)
  · refine (write_off (r := cc0_scratch0) (chunkR q) f _ hq).trans ?_
    rcases Finset.mem_insert.mp hk' with rfl | hk'
    · exact absurd hi hq
    · exact hf k' hk' i hi

/-- Filling a row chunk of the accumulator. -/
theorem wp_chunk (q : Dev nD) (S : Finset (Dev nD)) (offA : Fin 2 → ℕ) (hA : ∀ a, offA a + S384x768.size a ≤ S1536x768.size a) (off : Fin 2 → ℕ)
    (h : ∀ a, off a + S384x1536.size a ≤ S1536x1536.size a) (hp : (Rect.unit (s := S1536x1536) off S384x1536.size h).PackedRows (EltTy.packing .bf16))
    (eA : offA = ![384 * q.val, 0]) (eo : off = ![384 * q.val, 0]) :
    iprop(accS a b c S ∗ (aM.view.loc (c : Thread nD τ) ↦{fullShare} a c))
      ⊢ iprop(((accS a b c (insert q S) ∗ (aM.view.loc (c : Thread nD τ) ↦{fullShare} a c)) -∗ wpc c (k ⟨⟩) Q)
          -∗ wpc c (chunkOp (k0_pay1 (b c)) offA hA off h hp >>= k) Q) := by
  subst eA eo
  unfold chunkOp accS
  simp only [Prog.lift, Prog.bind_op, Prog.bind_ret, Prog.pure_eq_ret]
  iintro ⟨⟨%f, %hf, Hacc⟩, Ha⟩ Hk
  iapply (wp_load 𝒱₀ (c : Thread nD τ) none Set.univ (m := aM) (Finset.subset_univ _)) $$ Ha; iintro Ha
  iapply (wp_load 𝒱₀ (c : Thread nD τ) none Set.univ (m := accM) (Finset.subset_univ _)) $$ Hacc; iintro Hacc
  iapply (wp_store 𝒱₀ (c : Thread nD τ) none Set.univ (m := accM) (r := chunkR q) (Mk := Finset.univ) (Finset.subset_univ _)) $$ Hacc; iintro Hacc
  iapply Hk
  isplitl [Hacc]
  · iexists _; isplitr
    rotate_left
    · iexact Hacc
    · ipureintro; exact acc_insert a b c hf q
  · iexact Ha

/-- Staging a block of the device's own product. -/
theorem wp_stage (y : ℕ) (hy : y < 6) (S : Finset (Dev nD)) (hS : ck c 0 (y % 6) ∈ S) :
    iprop(accS a b c S ∗ ∃ f, stgP c y f)
      ⊢ iprop(((accS a b c S ∗ stgP c y (stgF a b c)) -∗ wpc c (k ⟨⟩) Q) -∗ wpc c (stageOp c y >>= k) Q) := by
  unfold stageOp accS stgP
  simp only [Prog.lift, Prog.bind_op, Prog.bind_ret, Prog.pure_eq_ret]
  iintro ⟨⟨%f, %hf, Hacc⟩, ⟨%g, Hs⟩⟩ Hk
  iapply (wp_load 𝒱₀ (c : Thread nD τ) none Set.univ (m := accM) (Finset.subset_univ _)) $$ Hacc; iintro Hacc
  rw [acc_value a b c hf 0 y hS]
  iapply (wp_load 𝒱₀ (c : Thread nD τ) none Set.univ (m := stgM) (le_of_eq (setOn_whole (r := cc0_scratch1) (slotR y)))) $$ Hs; iintro Hs
  iapply (wp_store 𝒱₀ (c : Thread nD τ) none Set.univ (m := stgM) (r := slotR y) (Mk := Finset.univ) (le_of_eq (set_access_whole (r := cc0_scratch1) (slotR y)))) $$ Hs; iintro Hs
  ihave Hs := (stored (r := cc0_scratch1) c (slotR y) g (stgF a b c) (k0_pay3 (pblk a b c 0 (y % 6)))
    (fun x => (stg_idx a b c y x).trans (by rw [show y / 6 % 3 = 0 by omega]; rfl))) $$ Hs
  iapply Hk
  isplitl [Hacc]
  · iexists f; isplitr
    · ipureintro; exact hf
    · iexact Hacc
  · iexact Hs

theorem fold_value {y : ℕ} (hy : y < 12) (x : S1x1x1x384x256.Idx) : stgF a b c ((slotR (y + 6)).emb x)
    = k0_pay12 (pblk a b c (Fin.ofNat 4 (y / 6 + 1)) (y % 6)) (T a b (y / 6) (orig (y % 6) c) (y % 6)) x := by
  rw [stg_idx, show (y + 6) / 6 % 3 = y / 6 + 1 by omega, show (y + 6) % 6 = y % 6 by omega]; rfl

/-- Adding a block of the device's own product to what came and staging the sum. -/
theorem wp_fold (y : ℕ) (hy : y < 12) (S : Finset (Dev nD)) (hS : ck c (Fin.ofNat 4 (y / 6 + 1)) (y % 6) ∈ S) :
    iprop(accS a b c S ∗ comP c y (comF a b c) ∗ ∃ f, stgP c (y + 6) f)
      ⊢ iprop(((accS a b c S ∗ comP c y (comF a b c) ∗ stgP c (y + 6) (stgF a b c)) -∗ wpc c (k ⟨⟩) Q) -∗ wpc c (foldOp c y >>= k) Q) := by
  unfold foldOp accS stgP comP
  simp only [Prog.lift, Prog.bind_op, Prog.bind_ret, Prog.pure_eq_ret]
  iintro ⟨⟨%f, %hf, Hacc⟩, Hc, ⟨%g, Hs⟩⟩ Hk
  iapply (wp_load 𝒱₀ (c : Thread nD τ) none Set.univ (m := accM) (Finset.subset_univ _)) $$ Hacc; iintro Hacc
  rw [acc_value a b c hf _ y hS]
  iapply (wp_load 𝒱₀ (c : Thread nD τ) none Set.univ (m := comM) (le_of_eq (setOn_whole (r := cc0_scratch2) (slotR y)))) $$ Hc; iintro Hc
  rw [com_read a b c (show y < 18 by omega)]
  iapply (wp_load 𝒱₀ (c : Thread nD τ) none Set.univ (m := stgM) (le_of_eq (setOn_whole (r := cc0_scratch1) (slotR (y + 6))))) $$ Hs; iintro Hs
  iapply (wp_store 𝒱₀ (c : Thread nD τ) none Set.univ (m := stgM) (r := slotR (y + 6)) (Mk := Finset.univ) (le_of_eq (set_access_whole (r := cc0_scratch1) (slotR (y + 6))))) $$ Hs; iintro Hs
  ihave Hs := (stored (r := cc0_scratch1) c (slotR (y + 6)) g (stgF a b c) _ (fold_value a b c hy)) $$ Hs
  iapply Hk
  isplitl [Hacc]
  · iexists f; isplitr
    · ipureintro; exact hf
    · iexact Hacc
  isplitl [Hc] <;> iassumption

/-- Finishing a block of the result. -/
theorem wp_out (y : ℕ) (h : 12 ≤ y) (hy : y < 18) (S : Finset (Dev nD)) (hS : ck c 3 (y % 6) ∈ S) :
    iprop(accS a b c S ∗ comP c y (comF a b c) ∗ ∃ f, outP c y f)
      ⊢ iprop(((accS a b c S ∗ comP c y (comF a b c) ∗ outP c y (outF a b)) -∗ wpc c (k ⟨⟩) Q) -∗ wpc c (outOp c y >>= k) Q) := by
  have hset : (blkR (ob c y) y).set = (accR c 3 (y % 6)).set := by rw [accR_set, ck_last c h hy]
  unfold outOp accS comP outP
  rw [hset]
  simp only [Prog.lift, Prog.bind_op, Prog.bind_ret, Prog.pure_eq_ret]
  iintro ⟨⟨%f, %hf, Hacc⟩, Hc, ⟨%g, Hs⟩⟩ Hk
  iapply (wp_load 𝒱₀ (c : Thread nD τ) none Set.univ (m := accM) (Finset.subset_univ _)) $$ Hacc; iintro Hacc
  rw [acc_value a b c hf _ y hS]
  iapply (wp_load 𝒱₀ (c : Thread nD τ) none Set.univ (m := comM) (le_of_eq (setOn_whole (r := cc0_scratch2) (slotR y)))) $$ Hc; iintro Hc
  rw [com_read a b c hy]
  iapply (wp_load 𝒱₀ (c : Thread nD τ) none Set.univ (m := oM) (le_of_eq (setOn_whole (r := cc0_stg2_0) (accR c 3 (y % 6))))) $$ Hs; iintro Hs
  iapply (wp_store 𝒱₀ (c : Thread nD τ) none Set.univ (m := oM) (r := accR c 3 (y % 6)) (Mk := Finset.univ) (le_of_eq (set_access_whole (r := cc0_stg2_0) (accR c 3 (y % 6))))) $$ Hs; iintro Hs
  ihave Hs := (stored (r := cc0_stg2_0) c (accR c 3 (y % 6)) g (outF a b) _ (fun x => (out_read a b c h hy x).trans
    (by rw [show U a b c (y % 6) = k0_pay27 (pblk a b c 3 (y % 6)) (T a b (y / 6) (orig (y % 6) c) (y % 6)) by rw [show y / 6 = 2 by omega]; rfl]))) $$ Hs
  iapply Hk
  isplitl [Hacc]
  · iexists f; isplitr
    · ipureintro; exact hf
    · iexact Hacc
  isplitl [Hc] <;> iassumption

/-! ## The copies -/

/-- Starting a copy from `src` on device `c` to `dst` on the device it goes to. -/
theorem wp_copy (y : ℕ) (hy : y < 36) (n : Dev nD) (hn : n = tgt y c) (src dst : Memref sig .tc .vmem S384x256 .bf16)
    {hsc : (dst : Memref sig (Dev.tc n : Thread nD τ).2.kind .vmem S384x256 .bf16).view.ref.isScScratch = false}
    {hsrc : src.view.WordExact} {hdst : dst.view.WordExact}
    {hsem : DmaTarget.Typed .vmem (.dma (rcvS y).sem) (.remote (Dev.tc n : Thread nD τ) (dst : Memref sig (Dev.tc n : Thread nD τ).2.kind .vmem S384x256 .bf16) (.dma (sndS y).sem) hsc)}
    (hN : dst.view.amount (.dma (rcvS y).sem) = N)
    (fs : Buf (Elt F) (src.view.loc (c : Thread nD τ))) (fd : Buf (Elt F) (dst.view.loc (tgt y c : Thread nD τ)))
    (hpay₁ : (src.view.loc (c : Thread nD τ) ↦[src.view.set]{fullShare} fs : sProp 𝕄) ⊢ sndPay a b c y)
    (hpay₂ : (dst.view.loc (tgt y c : Thread nD τ) ↦[dst.view.set]{fullShare} (dst.view.write (Elt F) fd (src.view.read (Elt F) fs) Finset.univ) : sProp 𝕄) ⊢ rcvPay a b (tgt y c) y) :
    iprop(records a b K ∗ (src.view.loc (c : Thread nD τ) ↦[src.view.set]{fullShare} fs) ∗ (dst.view.loc (tgt y c : Thread nD τ) ↦[dst.view.set]{fullShare} fd)
        ∗ dutyTok ER (sndCell c y) 0 false ∗ dutyTok ER (rcvCell (tgt y c) y) 0 false ∗ ow c y)
      ⊢ iprop(((cred (tallyAt (sndCell c y) () N) ∗ ow c (y + 1)) -∗ wpc c (k ⟨⟩) Q)
          -∗ wpc c (.op (.enqueueDma src (.remote (Dev.tc n : Thread nD τ) dst (.dma (sndS y).sem) hsc) (.dma (rcvS y).sem) hsrc hdst hsem) k) Q) := by
  subst hn
  unfold ow
  iintro ⟨#HR, Hs, Hd, Ht1, Ht2, ⟨%W, HO⟩⟩ Hk
  ihave HRs := (records_snd a b K c y) $$ HR
  icases HRs with ⟨#HI1, #Hr1⟩
  ihave HRr := (records_rcv a b K (tgt y c) y) $$ HR
  icases HRr with ⟨#HI2, #Hr2⟩
  iapply (Rounds.wp_send_pointsTo 𝒱₀ ER (ringRd a b) (c : Thread nD τ) none (κ₁ := K (c, sI y)) (κ₂ := K (tgt y c, rI y))
    (r₁ := 0) (r₂ := 0) (d₁ := false) (d₂ := false) (fs := fs) (fd := fd)
    (by rw [duties_snd]; exact Finset.mem_singleton_self _) (by rw [duties_rcv]; exact Finset.mem_singleton_self _)
    () () N hN (amount_snd a b c y false) (amount_rcv a b (tgt y c) y false) (owe (y + 1) c) (owe_succ hy c) (W := W)
    (by rw [payload_snd a b c hy]; exact hpay₁) (by rw [payload_rcv a b _ hy]; exact hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

theorem wp_sendRS (y : ℕ) (hy : y < 18) :
    iprop(records a b K ∗ stgP c y (stgF a b c) ∗ sendRes c y ∗ ow c y)
      ⊢ iprop(((cred (tallyAt (sndCell c y) () N) ∗ ow c (y + 1)) -∗ wpc c (k ⟨⟩) Q) -∗ wpc c (sendRS c y >>= k) Q) := by
  unfold sendRS sendRes landP
  rw [if_pos hy]
  simp only [Prog.lift, Prog.bind_op, Prog.bind_ret, Prog.pure_eq_ret]
  iintro ⟨#HR, Hs, ⟨Ht1, Ht2, ⟨%f, Hd⟩⟩, HO⟩ Hk
  iapply (wp_copy a b K c k Q y (by omega) _ (dst_eq c y) (stgS y) (comS y) rfl (stgF a b c) f
    (by unfold sndPay stgP; rw [if_pos hy, stgS_set])
    (by
      unfold rcvPay comP; rw [if_pos hy, comS_set]
      refine Entails.of_eq (pointsTo_congr fun i hi => ?_)
      exact write_agree (comS y).view f (comF a b (tgt y c)) _ (copy_read a b c y) i (by rw [comS_set]; exact hi))) $$ [Hs Hd Ht1 Ht2 HO]
  · isplitr; · iexact HR
    isplitl [Hs]; · rw [stgS_set]; unfold stgP; iexact Hs
    isplitl [Hd]; · rw [comS_set]; unfold comP; iexact Hd
    isplitl [Ht1]; · iexact Ht1
    isplitl [Ht2] <;> iassumption
  iexact Hk

theorem blk_six (q : Dev nD) {y : ℕ} (h : 6 ≤ y) : (blkR q (y - 6)).set = (blkR q y).set := by
  ext i; rw [mem_blk, mem_blk, show (y - 6) % 6 = y % 6 by omega]

theorem wp_sendAG (y : ℕ) (h : 18 ≤ y) (hy : y < 36) :
    iprop(records a b K ∗ outP c (y - 6) (outF a b) ∗ sendRes c y ∗ ow c y)
      ⊢ iprop(((cred (tallyAt (sndCell c y) () N) ∗ ow c (y + 1)) -∗ wpc c (k ⟨⟩) Q) -∗ wpc c (sendAG c y >>= k) Q) := by
  unfold sendAG sendRes landP
  rw [if_neg (by omega)]
  simp only [Prog.lift, Prog.bind_op, Prog.bind_ret, Prog.pure_eq_ret]
  iintro ⟨#HR, Hs, ⟨Ht1, Ht2, ⟨%f, Hd⟩⟩, HO⟩ Hk
  have e1 : (agS c y).view.set = (blkR (ob c (y - 6)) (y - 6)).set := (agS_set c h hy).trans (blk_six _ (by omega)).symm
  have e2 : (agS c y).view.set = (blkR (ob (tgt y c) y) y).set := (agS_set c h hy).trans (by rw [ob_step c h hy])
  iapply (wp_copy a b K c k Q y hy _ (dst_eq c y) (agS c y) (agS c y) rfl (outF a b) f
    (by unfold sndPay outP; rw [if_neg (by omega), e1])
    (by
      unfold rcvPay outP; rw [if_neg (by omega), e2]
      refine Entails.of_eq (pointsTo_congr fun i hi => ?_)
      exact write_agree (agS c y).view f (outF a b) _ (fun _ => rfl) i (by rw [e2]; exact hi))) $$ [Hs Hd Ht1 Ht2 HO]
  · isplitr; · iexact HR
    isplitl [Hs]; · rw [e1]; unfold outP; iexact Hs
    isplitl [Hd]; · rw [e2]; unfold outP; iexact Hd
    isplitl [Ht1]; · iexact Ht1
    isplitl [Ht2] <;> iassumption
  iexact Hk

/-- Waiting for a copy's arrival: what it brings, and its semaphore's counter back at zero. -/
theorem wp_arrive (y n : ℕ) (hy : y < 36) (hn : y < n) (src dst : Memref sig .tc .vmem S384x256 .bf16) {h₁ : src.view.WordExact} {h₂ : dst.view.WordExact}
    (hN : dst.view.dmaCredit = N) :
    iprop(records a b K ∗ levAts L lv ∗ rcvRes c y ∗ ow c n)
      ⊢ iprop(((rcvPay a b c y ∗ semVal (rcvCell c y) 0 ∗ ow c n) -∗ wpc c (k ⟨⟩) Q) -∗ wpc c (.op (.waitDma2 (rcvS y).sem src dst h₁ h₂) k) Q) := by
  unfold rcvRes ow
  iintro ⟨#HR, #Hlev, ⟨Hat, Hc⟩, ⟨%W, HO⟩⟩ Hk
  ihave HRr := (records_rcv a b K c y) $$ HR
  icases HRr with ⟨#HI, #-⟩
  iapply (Rounds.wp_wait_rest_token 𝒱₀ ER (ringRd a b) (c : Thread nD τ) none (κ := K (c, rI y))
      (wpE_waitDma2_eq 𝒱₀ (c : Thread nD τ) none Set.univ) (Set.mem_univ _) () (O := owe n c) (W := W) (R := 0) (m := 0) (T := ∅)
      (by rw [Nat.zero_add, expect_rcv])) $$ [Hc HO Hat]
  · isplitr; · iexact HI
    isplitl [Hc]; · rw [hN]; iexact Hc
    isplitl [HO]; · iexact HO
    isplitr; · iapply (mayWait_rcv c hy hn); iexact Hlev
    iexact Hat
  iintro ⟨HO, Hat, -, Hpay⟩
  ihave Hp := (Entails.of_eq (rest_rcv a b c hy)) $$ Hpay
  imod (Rounds.cell_close ER (ringRd a b) (Set.mem_univ (K (c, rI y))) (fun h => h) (R := 0 + 1) (duties_later a b (rcvCell c y))) $$ [Hat] with Hz
  · isplitr; · iexact HI
    iexact Hat
  iapply Hk
  isplitl [Hp]; · iexact Hp
  isplitl [Hz]; · iexact Hz
  iexists _; iexact HO

/-- Waiting for a copy's departure: its source back, and its semaphore's counter at zero. -/
theorem wp_depart (y : ℕ) (hy : y < 36) (src dst : Memref sig .tc .vmem S384x256 .bf16) {h₁ : src.view.WordExact} {h₂ : dst.view.WordExact}
    (hN : dst.view.dmaCredit = N) :
    iprop(records a b K ∗ sntRes c y ∗ ow c 36)
      ⊢ iprop(((sndPay a b c y ∗ semVal (sndCell c y) 0 ∗ ow c 36) -∗ wpc c (k ⟨⟩) Q) -∗ wpc c (.op (.waitDma2 (sndS y).sem src dst h₁ h₂) k) Q) := by
  unfold sntRes ow
  rw [owe_end le_rfl]
  iintro ⟨#HR, ⟨Hat, Hc⟩, ⟨%W, HO⟩⟩ Hk
  ihave HRr := (records_snd a b K c y) $$ HR
  icases HRr with ⟨#HI, #-⟩
  iapply (Rounds.wp_wait_rest_token 𝒱₀ ER (ringRd a b) (c : Thread nD τ) none (κ := K (c, sI y))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_snd a b c hy)) $$ Hpay
  imod (Rounds.cell_close ER (ringRd a b) (Set.mem_univ (K (c, sI y))) (fun h => h) (R := 0 + 1) (duties_later a b (sndCell c y))) $$ [Hat] with Hz
  · isplitr; · iexact HI
    iexact Hat
  iapply Hk
  isplitl [Hp]; · iexact Hp
  isplitl [Hz]; · iexact Hz
  iexists _; iexact HO

end Ops

end Cert.RingMM

end
-- ==== Proof.Loops.lean ====
/-
# `Loops`: the runs of operations

Each run of operations goes from copy to copy with an invariant: what the copies still to come need, and what the
copies done have left.
-/
module

public import proofs.«01_k».proof.Proof.Steps

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .bf16) (b : Dev nD → Vec F S768x1536 .bf16) (K : Dev nD × Fin 73 → ℕ)

/-! ## Conjunctions over an interval -/

/-- `Φ y` for every `lo ≤ y < hi`. -/
def bs (lo hi : ℕ) (Φ : ℕ → sProp 𝕄) : sProp 𝕄 := bigSep (Finset.Ico lo hi) Φ

omit [FloatOps F] in
theorem bs_peel {lo hi : ℕ} (h : lo < hi) (Φ : ℕ → sProp 𝕄) : bs (F := F) lo hi Φ = iprop(Φ lo ∗ bs (lo + 1) hi Φ) := by
  unfold bs
  rw [show Finset.Ico lo hi = insert lo (Finset.Ico (lo + 1) hi) by ext i; simp only [Finset.mem_insert, Finset.mem_Ico]; omega, bigSep_insert (by simp)]
  rfl
omit [FloatOps F] in
theorem bs_push {lo hi : ℕ} (h : lo ≤ hi) (Φ : ℕ → sProp 𝕄) : bs (F := F) lo (hi + 1) Φ = iprop(bs lo hi Φ ∗ Φ hi) := by
  unfold bs
  rw [show Finset.Ico lo (hi + 1) = insert hi (Finset.Ico lo hi) by ext i; simp only [Finset.mem_insert, Finset.mem_Ico]; omega, bigSep_insert (by simp)]
  show iprop(Φ hi ∗ bigSep (Finset.Ico lo hi) Φ) = iprop(bigSep (Finset.Ico lo hi) Φ ∗ Φ hi)
  exact equiv_iff.mp ⟨BI.sep_comm, BI.sep_comm⟩
omit [FloatOps F] in
theorem bs_nil (n : ℕ) (Φ : ℕ → sProp 𝕄) : bs (F := F) n n Φ = iprop(emp) := by unfold bs; rw [Finset.Ico_self]; exact bigSep_empty
omit [FloatOps F] in
theorem bs_split {lo mid hi : ℕ} (h : lo ≤ mid) (h' : mid ≤ hi) (Φ : ℕ → sProp 𝕄) : bs (F := F) lo hi Φ = iprop(bs lo mid Φ ∗ bs mid hi Φ) := by
  unfold bs
  rw [← Finset.Ico_union_Ico_eq_Ico h h', bigSep_union (Finset.Ico_disjoint_Ico_consecutive lo mid hi)]
  rfl
omit [FloatOps F] in
theorem bs_congr {lo hi : ℕ} {Φ Ψ : ℕ → sProp 𝕄} (h : ∀ y, lo ≤ y → y < hi → Φ y = Ψ y) : bs (F := F) lo hi Φ = bs lo hi Ψ :=
  bigSep_congr fun y hy => h y (Finset.mem_Ico.mp hy).1 (Finset.mem_Ico.mp hy).2
omit [FloatOps F] in
theorem bs_mono {lo hi : ℕ} {Φ Ψ : ℕ → sProp 𝕄} (h : ∀ y, lo ≤ y → y < hi → Φ y ⊢ Ψ y) : bs (F := F) lo hi Φ ⊢ bs lo hi Ψ :=
  bigSep_mono fun y hy => h y (Finset.mem_Ico.mp hy).1 (Finset.mem_Ico.mp hy).2
omit [FloatOps F] in
theorem bs_sep (lo hi : ℕ) (Φ Ψ : ℕ → sProp 𝕄) : bs (F := F) lo hi (fun y => iprop(Φ y ∗ Ψ y)) = iprop(bs lo hi Φ ∗ bs lo hi Ψ) := bigSep_sep _ Φ Ψ

/-! ## Runs -/

/-- What every operation may use again and again. -/
def env : sProp 𝕄 := iprop(records a b K ∗ levAts L lv)
instance env_persistent : BI.Persistent (env a b K) := by unfold env; infer_instance

/-- The operation `p` on device `c` takes `A` to `B`. -/
def Does (c : Dev nD) (p : P F PUnit.{1}) (A B : sProp 𝕄) : Prop :=
  ∀ {α : Type} (k : PUnit.{1} → P F α) (Q : α → sProp 𝕄), iprop(env a b K ∗ A) ⊢ iprop((B -∗ wpc c (k ⟨⟩) Q) -∗ wpc c (p >>= k) Q)

variable {a b K} in
theorem does_run {c : Dev nD} {f : ℕ → P F PUnit.{1}} (J : ℕ → sProp 𝕄) : ∀ (n lo : ℕ) (h : ∀ y, lo ≤ y → y < lo + n → Does a b K c (f y) (J y) (J (y + 1))),
    Does a b K c (runFrom f lo n) (J lo) (J (lo + n))
  | 0, lo, _ => fun k Q => by
    show _ ⊢ iprop((J lo -∗ _) -∗ wpc c ((pure ⟨⟩ : P F PUnit.{1}) >>= k) Q)
    rw [pure_bind]
    iintro ⟨-, HJ⟩ Hk
    iapply Hk; iexact HJ
  | n + 1, lo, h => fun k Q => by
    show _ ⊢ iprop(_ -∗ wpc c ((f lo >>= fun _ => runFrom f (lo + 1) n) >>= k) Q)
    rw [bind_assoc]
    iintro ⟨#HE, HJ⟩ Hk
    iapply (h lo le_rfl (by omega) (fun _ => runFrom f (lo + 1) n >>= k) Q) $$ [HJ]
    · isplitr; · iexact HE
      iexact HJ
    iintro HJ
    iapply (does_run J n (lo + 1) (fun y h1 h2 => h y (by omega) (by omega)) k Q) $$ [HJ]
    · isplitr; · iexact HE
      iexact HJ
    rw [show lo + 1 + n = lo + (n + 1) by omega]
    iexact Hk

variable {a b K} in
theorem Does.seq {c : Dev nD} {p q : P F PUnit.{1}} {A B C : sProp 𝕄} (h : Does a b K c p A B) (h' : Does a b K c q B C) : Does a b K c (p >>= fun _ => q) A C := fun k Q => by
  rw [bind_assoc]
  iintro ⟨#HE, HA⟩ Hk
  iapply (h (fun _ => q >>= k) Q) $$ [HA]
  · isplitr; · iexact HE
    iexact HA
  iintro HB
  iapply (h' k Q) $$ [HB]
  · isplitr; · iexact HE
    iexact HB
  iexact Hk

variable {a b K} in
/-- More on both sides. -/
theorem Does.frame {c : Dev nD} {p : P F PUnit.{1}} {A B : sProp 𝕄} (h : Does a b K c p A B) {A' B' R : sProp 𝕄} (hA : A' ⊢ iprop(A ∗ R)) (hB : iprop(B ∗ R) ⊢ B') :
    Does a b K c p A' B' := fun k Q => by
  iintro ⟨#HE, HA⟩ Hk
  ihave H := hA $$ HA
  icases H with ⟨HA, HR⟩
  iapply (h k Q) $$ [HA]
  · isplitr; · iexact HE
    iexact HA
  iintro HB
  iapply Hk
  iapply hB
  isplitl [HB] <;> iassumption

/-! ## The operations so stated -/

section Ops
variable (c : Dev nD)

theorem does_stage {y : ℕ} (hy : y < 6) {S : Finset (Dev nD)} (hS : ck c 0 (y % 6) ∈ S) :
    Does a b K c (stageOp c y) iprop(accS a b c S ∗ ∃ f, stgP c y f) iprop(accS a b c S ∗ stgP c y (stgF a b c)) := fun k Q => by
  iintro ⟨-, HA⟩; iapply (wp_stage a b c k Q y hy S hS); iexact HA
theorem does_fold {y : ℕ} (hy : y < 12) {S : Finset (Dev nD)} (hS : ck c (Fin.ofNat 4 (y / 6 + 1)) (y % 6) ∈ S) :
    Does a b K c (foldOp c y) iprop(accS a b c S ∗ comP c y (comF a b c) ∗ ∃ f, stgP c (y + 6) f)
      iprop(accS a b c S ∗ comP c y (comF a b c) ∗ stgP c (y + 6) (stgF a b c)) := fun k Q => by
  iintro ⟨-, HA⟩; iapply (wp_fold a b c k Q y hy S hS); iexact HA
theorem does_out {y : ℕ} (h : 12 ≤ y) (hy : y < 18) {S : Finset (Dev nD)} (hS : ck c 3 (y % 6) ∈ S) :
    Does a b K c (outOp c y) iprop(accS a b c S ∗ comP c y (comF a b c) ∗ ∃ f, outP c y f)
      iprop(accS a b c S ∗ comP c y (comF a b c) ∗ outP c y (outF a b)) := fun k Q => by
  iintro ⟨-, HA⟩; iapply (wp_out a b c k Q y h hy S hS); iexact HA
theorem does_sendRS {y : ℕ} (hy : y < 18) :
    Does a b K c (sendRS c y) iprop(stgP c y (stgF a b c) ∗ sendRes c y ∗ ow c y) iprop(cred (tallyAt (sndCell c y) () N) ∗ ow c (y + 1)) := fun k Q => by
  unfold env
  iintro ⟨⟨#HR, #HL⟩, HA⟩; iapply (wp_sendRS a b K c k Q y hy)
  isplitr; · iexact HR
  iexact HA
theorem does_sendAG {y : ℕ} (h : 18 ≤ y) (hy : y < 36) :
    Does a b K c (sendAG c y) iprop(outP c (y - 6) (outF a b) ∗ sendRes c y ∗ ow c y) iprop(cred (tallyAt (sndCell c y) () N) ∗ ow c (y + 1)) := fun k Q => by
  unfold env
  iintro ⟨⟨#HR, #HL⟩, HA⟩; iapply (wp_sendAG a b K c k Q y h hy)
  isplitr; · iexact HR
  iexact HA
theorem does_recvRS {y n : ℕ} (hy : y < 18) (hn : y < n) :
    Does a b K c (recvRS y) iprop(rcvRes c y ∗ ow c n) iprop(comP c y (comF a b c) ∗ semVal (rcvCell c y) 0 ∗ ow c n) := fun k Q => by
  unfold env recvRS
  simp only [Prog.lift, Prog.bind_op, Prog.bind_ret, Prog.pure_eq_ret]
  iintro ⟨⟨#HR, #HL⟩, HA⟩
  rw [show comP c y (comF a b c) = rcvPay a b c y from (if_pos hy).symm]
  iapply (wp_arrive a b K c k Q y n (by omega) hn (stgS y) (comS y) rfl)
  isplitr; · iexact HR
  isplitr; · iexact HL
  iexact HA
theorem does_recvAG {y n : ℕ} (h : 18 ≤ y) (hy : y < 36) (hn : y < n) :
    Does a b K c (recvAG c y) iprop(rcvRes c y ∗ ow c n) iprop(outP c y (outF a b) ∗ semVal (rcvCell c y) 0 ∗ ow c n) := fun k Q => by
  unfold env recvAG
  simp only [Prog.lift, Prog.bind_op, Prog.bind_ret, Prog.pure_eq_ret]
  iintro ⟨⟨#HR, #HL⟩, HA⟩
  rw [show outP c y (outF a b) = rcvPay a b c y from (if_neg (by omega)).symm]
  iapply (wp_arrive a b K c k Q y n hy hn (agS c y) (agS c y) rfl)
  isplitr; · iexact HR
  isplitr; · iexact HL
  iexact HA
theorem does_leftRS {y : ℕ} (hy : y < 18) :
    Does a b K c (leftRS y) iprop(sntRes c y ∗ ow c 36) iprop(stgP c y (stgF a b c) ∗ semVal (sndCell c y) 0 ∗ ow c 36) := fun k Q => by
  unfold env leftRS
  simp only [Prog.lift, Prog.bind_op, Prog.bind_ret, Prog.pure_eq_ret]
  iintro ⟨⟨#HR, #HL⟩, HA⟩
  rw [show stgP c y (stgF a b c) = sndPay a b c y from (if_pos hy).symm]
  iapply (wp_depart a b K c k Q y (by omega) (comS y) (stgS y) rfl)
  isplitr; · iexact HR
  iexact HA
theorem does_leftAG {y : ℕ} (h : 18 ≤ y) (hy : y < 36) :
    Does a b K c (leftAG c y) iprop(sntRes c y ∗ ow c 36) iprop(outP c (y - 6) (outF a b) ∗ semVal (sndCell c y) 0 ∗ ow c 36) := fun k Q => by
  unfold env leftAG
  simp only [Prog.lift, Prog.bind_op, Prog.bind_ret, Prog.pure_eq_ret]
  iintro ⟨⟨#HR, #HL⟩, HA⟩
  rw [show outP c (y - 6) (outF a b) = sndPay a b c y from (if_neg (by omega)).symm]
  iapply (wp_depart a b K c k Q y hy (agS c y) (agS c y) rfl)
  isplitr; · iexact HR
  iexact HA

/-! ## The invariants -/

/-- A semaphore's counter back at zero; a departure's credit. -/
abbrev zR (y : ℕ) : sProp 𝕄 := semVal (rcvCell c y) 0
abbrev zS (y : ℕ) : sProp 𝕄 := semVal (sndCell c y) 0
abbrev cS (y : ℕ) : sProp 𝕄 := cred (tallyAt (sndCell c y) () N)

/-- Copies before `n` are sent. -/
def sent (n : ℕ) : sProp 𝕄 := iprop(ow c n ∗ bs n 36 (sendRes c) ∗ bs 0 n (cS c))
/-- Copies before `y` have arrived. -/
def came (y : ℕ) : sProp 𝕄 := iprop(bs y 36 (rcvRes c) ∗ bs 0 y (zR c))

/-- Staging the first hop. -/
def jStage (S : Finset (Dev nD)) (y : ℕ) : sProp 𝕄 := iprop(accS a b c S ∗ bs y 6 (fun z => iprop(∃ f, stgP c z f)) ∗ bs 0 y (fun z => stgP c z (stgF a b c)))
/-- Sending the first hop. -/
def jSend (y : ℕ) : sProp 𝕄 := iprop(sent c y ∗ bs y 6 (fun z => stgP c z (stgF a b c)))
/-- The middle hops of the reduction. -/
def jStep (S : Finset (Dev nD)) (y : ℕ) : sProp 𝕄 :=
  iprop(accS a b c S ∗ came c y ∗ sent c (y + 6) ∗ bs (y + 6) 18 (fun z => iprop(∃ f, stgP c z f)) ∗ bs 0 y (fun z => comP c z (comF a b c)))
/-- The last hop of the reduction. -/
def jOut (S : Finset (Dev nD)) (y : ℕ) : sProp 𝕄 :=
  iprop(accS a b c S ∗ came c y ∗ sent c (y + 6) ∗ bs y 18 (fun z => iprop(∃ f, outP c z f)) ∗ bs 0 y (fun z => comP c z (comF a b c)))
/-- The first hops of the gathering. -/
def jAG (y : ℕ) : sProp 𝕄 := iprop(came c y ∗ sent c (y + 6))
/-- Its last hop. -/
def jEnd (y : ℕ) : sProp 𝕄 := iprop(came c y ∗ ow c 36 ∗ bs 30 y (fun z => outP c z (outF a b)))
/-- Waiting for the departures, of the reduction and of the gathering. -/
def jLeftRS (y : ℕ) : sProp 𝕄 := iprop(ow c 36 ∗ bs y 18 (sntRes c) ∗ bs 0 y (zS c) ∗ bs 0 y (fun z => stgP c z (stgF a b c)))
def jLeftAG (y : ℕ) : sProp 𝕄 := iprop(ow c 36 ∗ bs y 36 (sntRes c) ∗ bs 18 y (zS c) ∗ bs 18 y (fun z => outP c (z - 6) (outF a b)))

theorem run_stage {S : Finset (Dev nD)} (hS : ∀ l < 6, ck c 0 l ∈ S) : Does a b K c (runFrom (stageOp c) 0 6) (jStage a b c S 0) (jStage a b c S 6) :=
  does_run (jStage a b c S) 6 0 fun y _ hy => by
    refine Does.frame (does_stage a b K c (y := y) (by omega) (hS _ (Nat.mod_lt y (by omega)))) (R := iprop(bs (y + 1) 6 (fun z => iprop(∃ f, stgP c z f)) ∗ bs 0 y (fun z => stgP c z (stgF a b c)))) ?_ ?_
    · unfold jStage; rw [bs_peel (by omega)]
      iintro ⟨H1, ⟨H2, H3⟩, H4⟩
      iframe H1 H2 H3 H4
    · unfold jStage; rw [bs_push (Nat.zero_le y)]
      iintro ⟨⟨H1, H2⟩, H3, H4⟩
      iframe H1 H2 H3 H4

theorem run_send : Does a b K c (runFrom (sendRS c) 0 6) (jSend a b c 0) (jSend a b c 6) :=
  does_run (jSend a b c) 6 0 fun y _ hy => by
    refine Does.frame (does_sendRS a b K c (y := y) (by omega)) (R := iprop(bs (y + 1) 6 (fun z => stgP c z (stgF a b c)) ∗ bs (y + 1) 36 (sendRes c) ∗ bs 0 y (cS c))) ?_ ?_
    · unfold jSend sent; rw [bs_peel (show y < 6 by omega), bs_peel (show y < 36 by omega)]
      iintro ⟨⟨H1, ⟨H2, H3⟩, H4⟩, H5, H6⟩
      iframe H1 H2 H3 H4 H5 H6
    · unfold jSend sent; rw [bs_push (Nat.zero_le y)]
      iintro ⟨⟨H1, H2⟩, H3, H4, H5⟩
      iframe H1 H2 H3 H4 H5

theorem run_step {S : Finset (Dev nD)} (lo : ℕ) (hlo : lo + 6 ≤ 12) (hS : ∀ y, lo ≤ y → y < lo + 6 → ck c (Fin.ofNat 4 (y / 6 + 1)) (y % 6) ∈ S) :
    Does a b K c (runFrom (stepRS c) lo 6) (jStep a b c S lo) (jStep a b c S (lo + 6)) :=
  does_run (jStep a b c S) 6 lo fun y h hy => by
    refine Does.seq (B := iprop(accS a b c S ∗ comP c y (comF a b c) ∗ (∃ f, stgP c (y + 6) f) ∗ came c (y + 1) ∗ sent c (y + 6)
      ∗ bs (y + 7) 18 (fun z => iprop(∃ f, stgP c z f)) ∗ bs 0 y (fun z => comP c z (comF a b c)))) ?_
      (Does.seq (B := iprop(accS a b c S ∗ comP c y (comF a b c) ∗ stgP c (y + 6) (stgF a b c) ∗ came c (y + 1) ∗ sent c (y + 6)
      ∗ bs (y + 7) 18 (fun z => iprop(∃ f, stgP c z f)) ∗ bs 0 y (fun z => comP c z (comF a b c)))) ?_ ?_)
    · refine Does.frame (does_recvRS a b K c (y := y) (n := y + 6) (by omega) (by omega)) (R := iprop(accS a b c S ∗ bs (y + 1) 36 (rcvRes c) ∗ bs 0 y (zR c)
        ∗ bs (y + 6) 36 (sendRes c) ∗ bs 0 (y + 6) (cS c) ∗ (∃ f, stgP c (y + 6) f)
        ∗ bs (y + 7) 18 (fun z => iprop(∃ f, stgP c z f)) ∗ bs 0 y (fun z => comP c z (comF a b c)))) ?_ ?_
      · unfold jStep came sent; rw [bs_peel (show y < 36 by omega), bs_peel (show y + 6 < 18 by omega)]
        iintro ⟨H1, ⟨⟨H2, H3⟩, H4⟩, ⟨H5, H6, H7⟩, ⟨H8, H9⟩, H10⟩
        iframe H1 H2 H3 H4 H5 H6 H7 H8 H9 H10
      · unfold came sent; rw [bs_push (Nat.zero_le y)]
        iintro ⟨⟨H1, H2, H3⟩, H4, H5, H6, H7, H8, H9, H10, H11⟩
        iframe H1 H2 H3 H4 H5 H6 H7 H8 H9 H10 H11
    · refine Does.frame (does_fold a b K c (y := y) (by omega) (hS y h hy)) (R := iprop(came c (y + 1) ∗ sent c (y + 6)
        ∗ bs (y + 7) 18 (fun z => iprop(∃ f, stgP c z f)) ∗ bs 0 y (fun z => comP c z (comF a b c)))) ?_ ?_
      · iintro ⟨H1, H2, H3, H4⟩
        isplitr [H4]
        · isplitl [H1]; · iassumption
          isplitl [H2] <;> iassumption
        iassumption
      · iintro ⟨⟨H1, H2, H3⟩, H4⟩
        isplitl [H1]; · iassumption
        isplitl [H2]; · iassumption
        isplitl [H3] <;> iassumption
    · refine Does.frame (does_sendRS a b K c (y := y + 6) (by omega)) (R := iprop(accS a b c S ∗ comP c y (comF a b c) ∗ came c (y + 1)
        ∗ bs (y + 7) 36 (sendRes c) ∗ bs 0 (y + 6) (cS c) ∗ bs (y + 7) 18 (fun z => iprop(∃ f, stgP c z f)) ∗ bs 0 y (fun z => comP c z (comF a b c)))) ?_ ?_
      · unfold sent; rw [bs_peel (show y + 6 < 36 by omega)]
        iintro ⟨H1, H2, H3, H4, ⟨H5, ⟨H6, H7⟩, H8⟩, H9, H10⟩
        iframe H1 H2 H3 H4 H5 H6 H7 H8 H9 H10
      · unfold jStep sent; rw [show y + 1 + 6 = y + 6 + 1 by omega, bs_push (lo := 0) (hi := y + 6) (Nat.zero_le _), bs_push (Nat.zero_le y)]
        iintro ⟨⟨H1, H2⟩, H3, H4, H5, H6, H7, H8, H9⟩
        iframe H1 H2 H3 H4 H5 H6 H7 H8 H9

theorem run_out {S : Finset (Dev nD)} (hS : ∀ l < 6, ck c 3 l ∈ S) : Does a b K c (runFrom (stepOut c) 12 6) (jOut a b c S 12) (jOut a b c S 18) :=
  does_run (jOut a b c S) 6 12 fun y h hy => by
    refine Does.seq (B := iprop(accS a b c S ∗ comP c y (comF a b c) ∗ (∃ f, outP c y f) ∗ came c (y + 1) ∗ sent c (y + 6)
      ∗ bs (y + 1) 18 (fun z => iprop(∃ f, outP c z f)) ∗ bs 0 y (fun z => comP c z (comF a b c)))) ?_
      (Does.seq (B := iprop(accS a b c S ∗ comP c y (comF a b c) ∗ outP c y (outF a b) ∗ came c (y + 1) ∗ sent c (y + 6)
      ∗ bs (y + 1) 18 (fun z => iprop(∃ f, outP c z f)) ∗ bs 0 y (fun z => comP c z (comF a b c)))) ?_ ?_)
    · refine Does.frame (does_recvRS a b K c (y := y) (n := y + 6) (by omega) (by omega)) (R := iprop(accS a b c S ∗ bs (y + 1) 36 (rcvRes c) ∗ bs 0 y (zR c)
        ∗ bs (y + 6) 36 (sendRes c) ∗ bs 0 (y + 6) (cS c) ∗ (∃ f, outP c y f)
        ∗ bs (y + 1) 18 (fun z => iprop(∃ f, outP c z f)) ∗ bs 0 y (fun z => comP c z (comF a b c)))) ?_ ?_
      · unfold jOut came sent; rw [bs_peel (show y < 36 by omega), bs_peel (show y < 18 by omega)]
        iintro ⟨H1, ⟨⟨H2, H3⟩, H4⟩, ⟨H5, H6, H7⟩, ⟨H8, H9⟩, H10⟩
        iframe H1 H2 H3 H4 H5 H6 H7 H8 H9 H10
      · unfold came sent; rw [bs_push (Nat.zero_le y)]
        iintro ⟨⟨H1, H2, H3⟩, H4, H5, H6, H7, H8, H9, H10, H11⟩
        iframe H1 H2 H3 H4 H5 H6 H7 H8 H9 H10 H11
    · refine Does.frame (does_out a b K c (y := y) h (by omega) (hS _ (Nat.mod_lt y (by omega)))) (R := iprop(came c (y + 1) ∗ sent c (y + 6)
        ∗ bs (y + 1) 18 (fun z => iprop(∃ f, outP c z f)) ∗ bs 0 y (fun z => comP c z (comF a b c)))) ?_ ?_
      · iintro ⟨H1, H2, H3, H4⟩
        iframe H1 H2 H3 H4
      · iintro ⟨⟨H1, H2, H3⟩, H4⟩
        iframe H1 H2 H3 H4
    · refine Does.frame (does_sendAG a b K c (y := y + 6) (by omega) (by omega)) (R := iprop(accS a b c S ∗ comP c y (comF a b c) ∗ came c (y + 1)
        ∗ bs (y + 7) 36 (sendRes c) ∗ bs 0 (y + 6) (cS c) ∗ bs (y + 1) 18 (fun z => iprop(∃ f, outP c z f)) ∗ bs 0 y (fun z => comP c z (comF a b c)))) ?_ ?_
      · unfold sent; rw [bs_peel (show y + 6 < 36 by omega), show y + 6 - 6 = y by omega]
        iintro ⟨H1, H2, H3, H4, ⟨H5, ⟨H6, H7⟩, H8⟩, H9, H10⟩
        iframe H1 H2 H3 H4 H5 H6 H7 H8 H9 H10
      · unfold jOut sent; rw [show y + 1 + 6 = y + 6 + 1 by omega, bs_push (lo := 0) (hi := y + 6) (Nat.zero_le _), bs_push (Nat.zero_le y)]
        iintro ⟨⟨H1, H2⟩, H3, H4, H5, H6, H7, H8, H9⟩
        iframe H1 H2 H3 H4 H5 H6 H7 H8 H9

theorem run_gather : Does a b K c (runFrom (stepAG c) 18 12) (jAG c 18) (jAG c 30) :=
  does_run (jAG c) 12 18 fun y h hy => by
    refine Does.seq (B := iprop(outP c y (outF a b) ∗ came c (y + 1) ∗ sent c (y + 6))) ?_ ?_
    · refine Does.frame (does_recvAG a b K c (y := y) (n := y + 6) (by omega) (by omega) (by omega)) (R := iprop(bs (y + 1) 36 (rcvRes c) ∗ bs 0 y (zR c)
        ∗ bs (y + 6) 36 (sendRes c) ∗ bs 0 (y + 6) (cS c))) ?_ ?_
      · unfold jAG came sent; rw [bs_peel (show y < 36 by omega)]
        iintro ⟨⟨⟨H1, H2⟩, H3⟩, H4, H5, H6⟩
        iframe H1 H2 H3 H4 H5 H6
      · unfold came sent; rw [bs_push (Nat.zero_le y)]
        iintro ⟨⟨H1, H2, H3⟩, H4, H5, H6, H7⟩
        iframe H1 H2 H3 H4 H5 H6 H7
    · refine Does.frame (does_sendAG a b K c (y := y + 6) (by omega) (by omega)) (R := iprop(came c (y + 1) ∗ bs (y + 7) 36 (sendRes c) ∗ bs 0 (y + 6) (cS c))) ?_ ?_
      · unfold sent; rw [bs_peel (show y + 6 < 36 by omega), show y + 6 - 6 = y by omega]
        iintro ⟨H1, H2, H3, ⟨H4, H5⟩, H6⟩
        iframe H1 H2 H3 H4 H5 H6
      · unfold jAG sent; rw [show y + 1 + 6 = y + 6 + 1 by omega, bs_push (lo := 0) (hi := y + 6) (Nat.zero_le _)]
        iintro ⟨⟨H1, H2⟩, H3, H4, H5⟩
        iframe H1 H2 H3 H4 H5

theorem run_last : Does a b K c (runFrom (recvAG c) 30 6) (jEnd a b c 30) (jEnd a b c 36) :=
  does_run (jEnd a b c) 6 30 fun y h hy => by
    refine Does.frame (does_recvAG a b K c (y := y) (n := 36) (by omega) (by omega) (by omega)) (R := iprop(bs (y + 1) 36 (rcvRes c) ∗ bs 0 y (zR c)
      ∗ bs 30 y (fun z => outP c z (outF a b)))) ?_ ?_
    · unfold jEnd came; rw [bs_peel (show y < 36 by omega)]
      iintro ⟨⟨⟨H1, H2⟩, H3⟩, H4, H5⟩
      iframe H1 H2 H3 H4 H5
    · unfold jEnd came; rw [bs_push (Nat.zero_le y), bs_push h]
      iintro ⟨⟨H1, H2, H3⟩, H4, H5, H6⟩
      iframe H1 H2 H3 H4 H5 H6

theorem run_leftRS : Does a b K c (runFrom leftRS 0 18) (jLeftRS a b c 0) (jLeftRS a b c 18) :=
  does_run (jLeftRS a b c) 18 0 fun y h hy => by
    refine Does.frame (does_leftRS a b K c (y := y) (by omega)) (R := iprop(bs (y + 1) 18 (sntRes c) ∗ bs 0 y (zS c)
      ∗ bs 0 y (fun z => stgP c z (stgF a b c)))) ?_ ?_
    · unfold jLeftRS; rw [bs_peel (show y < 18 by omega)]
      iintro ⟨H1, ⟨H2, H3⟩, H4, H5⟩
      iframe H1 H2 H3 H4 H5
    · unfold jLeftRS; rw [bs_push (Nat.zero_le y), bs_push (Nat.zero_le y)]
      iintro ⟨⟨H1, H2, H3⟩, H4, H5, H6⟩
      iframe H1 H2 H3 H4 H5 H6

theorem run_leftAG : Does a b K c (runFrom (leftAG c) 18 18) (jLeftAG a b c 18) (jLeftAG a b c 36) :=
  does_run (jLeftAG a b c) 18 18 fun y h hy => by
    refine Does.frame (does_leftAG a b K c (y := y) h (by omega)) (R := iprop(bs (y + 1) 36 (sntRes c) ∗ bs 18 y (zS c)
      ∗ bs 18 y (fun z => outP c (z - 6) (outF a b)))) ?_ ?_
    · unfold jLeftAG; rw [bs_peel (show y < 36 by omega)]
      iintro ⟨H1, ⟨H2, H3⟩, H4, H5⟩
      iframe H1 H2 H3 H4 H5
    · unfold jLeftAG; rw [bs_push h, bs_push h]
      iintro ⟨⟨H1, H2, H3⟩, H4, H5, H6⟩
      iframe H1 H2 H3 H4 H5 H6

end Ops

end Cert.RingMM

end
-- ==== Proof.Body.lean ====
/-
# `Body`: the whole body on one device

The two signals and the wait that open it, then the runs of `Loops` one after another.
-/
module

public import proofs.«01_k».proof.Proof.Loops

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .bf16) (b : Dev nD → Vec F S768x1536 .bf16) (K : Dev nD × Fin 73 → ℕ)

/-! ## Landing areas by direction -/

omit [FloatOps F] in
theorem bs_dir (Φ : ℕ → sProp 𝕄) : bs (F := F) 0 36 Φ = iprop(bigSep (dirSet false) Φ ∗ bigSep (dirSet true) Φ) := by
  unfold bs dirSet
  rw [bigSep_filter_split (Finset.Ico 0 36) (fun y => dir y = false)]
  rw [Finset.filter_congr (s := Finset.Ico 0 36) (p := fun y => ¬ dir y = false) (q := fun y => dir y = true) fun y _ => by simp]
  rfl

omit [FloatOps F] in
theorem land_give (c : Dev nD) : bs (F := F) 0 36 (landP c) = iprop(barPay (nx true c) false ∗ barPay (nx false c) true) := by
  rw [bs_dir]; unfold barPay
  rw [show nx false (nx true c) = c from nx_nx false c, show nx true (nx false c) = c from nx_nx true c]
omit [FloatOps F] in
theorem land_take (c : Dev nD) : (iprop(barPay c false ∗ barPay c true) : sProp 𝕄) = bs (F := F) 0 36 (fun y => landP (tgt y c) y) := by
  rw [bs_dir]; unfold barPay
  have h (d : Bool) : bigSep (dirSet d) (landP (F := F) (nx d c)) = bigSep (dirSet d) (fun y => landP (tgt y c) y) :=
    bigSep_congr fun y hy => by unfold tgt; rw [(Finset.mem_filter.mp hy).2]
  rw [h, h]

section Ops
variable (c : Dev nD)

/-- One of the two signals. -/
theorem does_signal (d : Bool) (n : Dev nD) (hn : n = nx d c) (O : CellTallies nD τ sig Unit) (O' : CellTallies nD τ sig Unit)
    (hO : O' = O + tallyAt (barCell (nx d c)) () 1) :
    Does a b K c (semSignalWord n barS.sem 1#32) iprop((∃ W, owes (c : Thread nD τ) O' W) ∗ dutyTok ER (barCell (nx d c)) 0 (!d) ∗ barPay (nx d c) (!d))
      iprop(∃ W, owes (c : Thread nD τ) O W) := fun k Q => by
  subst hn
  unfold env
  simp only [semSignalWord, Prog.bind_op, Prog.bind_ret]
  iintro ⟨⟨#HR, #HL⟩, ⟨%W, HO⟩, Ht, Hp⟩ Hk
  ihave H := (records_bar a b K (nx d c)) $$ HR
  icases H with ⟨#HI, #Hr⟩
  iapply (Rounds.wp_signal 𝒱₀ ER (ringRd a b) (c : Thread nD τ) none (dst := (nx d c : Thread nD τ)) (κ := K (nx d c, 0))
      (d := !d) (by rw [duties_bar]; exact Finset.mem_univ _) ((amount_bar a b (nx d c) (!d)).trans (by decide)) () O hO)
    $$ [HO Ht Hp]
  · isplitr; · iexact HI
    isplitl [HO]; · iexact HO
    isplitl [Ht]; · iexact Ht
    isplitl [Hp]; · rw [payload_bar]; iexact Hp
    iexact Hr
  iintro HO
  iapply Hk; iexists W; iexact HO

/-- The wait for both neighbours. -/
theorem does_barrier : Does a b K c (semWaitWord barS.sem 2#32) iprop(ow c 0 ∗ atPos ER (barCell c) 0 ∅ 0 ∗ cred (tallyAt (barCell c) () 2))
      iprop(ow c 0 ∗ semVal (barCell c) 0 ∗ bs 0 36 (fun y => landP (tgt y c) y)) := fun k Q => by
  unfold env ow
  simp only [semWaitWord, Prog.bind_op, Prog.bind_ret]
  iintro ⟨⟨#HR, #HL⟩, ⟨%W, HO⟩, Hat, Hc⟩ Hk
  ihave H := (records_bar a b K c) $$ HR
  icases H with ⟨#HI, #Hr⟩
  iapply (Rounds.wp_wait_rest_token 𝒱₀ ER (ringRd a b) (c : Thread nD τ) none (κ := K (c, 0))
      (wpE_semWait_eq 𝒱₀ (c : Thread nD τ) none Set.univ) (Set.mem_univ _) () (O := owe 0 c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact HL
    iexact Hat
  iintro ⟨HO, Hat, -, Hpay⟩
  ihave Hp := (Entails.of_eq ((rest_bar a b c).trans (land_take c))) $$ Hpay
  imod (Rounds.cell_close ER (ringRd a b) (Set.mem_univ (K (c, 0))) (fun h => h) (R := 0 + 1) (duties_later a b (barCell c))) $$ [Hat] with Hz
  · isplitr; · iexact HI
    iexact Hat
  iapply Hk
  isplitl [HO]; · iexists _; iexact HO
  isplitl [Hz] <;> iassumption

/-! ## Buffers whole and in parts -/

omit [FloatOps F] in
theorem com_parts (f : Vec F S3x2x3x384x256 .bf16) : (comM.view.loc (c : Thread nD τ) ↦{fullShare} f : sProp 𝕄) = bs 0 18 (fun y => comP c y f) := by
  unfold bs comP
  rw [← pointsTo_biUnion (ℓ := comM.view.loc (c : Thread nD τ)) (Finset.Ico 0 18) (fun y => (slotR y).set) slot_disjoint, slot_cover]
omit [FloatOps F] in
theorem stg_parts (f : Vec F S3x2x3x384x256 .bf16) : (stgM.view.loc (c : Thread nD τ) ↦{fullShare} f : sProp 𝕄) = bs 0 18 (fun y => stgP c y f) := by
  unfold bs stgP
  rw [← pointsTo_biUnion (ℓ := stgM.view.loc (c : Thread nD τ)) (Finset.Ico 0 18) (fun y => (slotR y).set) slot_disjoint, slot_cover]
omit [FloatOps F] in
theorem out_parts (f : Vec F S1536x1536 .bf16) : (oM.view.loc (c : Thread nD τ) ↦{fullShare} f : sProp 𝕄) = bs 12 36 (fun y => outP c y f) := by
  unfold bs outP
  rw [← pointsTo_biUnion (ℓ := oM.view.loc (c : Thread nD τ)) (Finset.Ico 12 36) (fun y => (blkR (ob c y) y).set) (blk_disjoint c), blk_cover]

omit [FloatOps F] in
theorem some_of {Φ : ℕ → Vec F S3x2x3x384x256 .bf16 → sProp 𝕄} (lo hi : ℕ) (f : Vec F S3x2x3x384x256 .bf16) :
    bs lo hi (fun y => Φ y f) ⊢ bs (F := F) lo hi (fun y => iprop(∃ f, Φ y f)) :=
  bs_mono fun y _ _ => by iintro H; iexists f; iexact H

omit [FloatOps F] in
/-- The landing areas of a device are its landing buffer and the part of the result it receives. -/
theorem land_parts (f : Vec F S3x2x3x384x256 .bf16) (g : Vec F S1536x1536 .bf16) :
    iprop((comM.view.loc (c : Thread nD τ) ↦{fullShare} f) ∗ (oM.view.loc (c : Thread nD τ) ↦{fullShare} g))
      ⊢ (iprop(bs 0 36 (landP c) ∗ bs 12 18 (fun z => iprop(∃ f, outP c z f))) : sProp 𝕄) := by
  rw [com_parts, out_parts, bs_split (show 12 ≤ 18 by omega) (show 18 ≤ 36 by omega), bs_split (show 0 ≤ 18 by omega) (show 18 ≤ 36 by omega)]
  iintro ⟨H1, H2, H3⟩
  isplitl [H1 H3]
  · isplitl [H1]
    · iapply (bs_mono (F := F) (Φ := fun y => comP c y f) fun y _ hy => by unfold landP; rw [if_pos hy]; iintro H; iexists f; iexact H); iexact H1
    · iapply (bs_mono (F := F) (Φ := fun y => outP c y g) fun y hy _ => by unfold landP; rw [if_neg (by omega)]; iintro H; iexists g; iexact H); iexact H3
  · iapply (bs_mono (F := F) (Φ := fun y => outP c y g) fun y hy _ => by iintro H; iexists g; iexact H); iexact H2

/-- The parts of the result that came back and those received last are all of it. -/
theorem out_join : iprop(bs 18 36 (fun z => outP c (z - 6) (outF a b)) ∗ bs 30 36 (fun z => outP c z (outF a b)))
    ⊢ (oM.view.loc (c : Thread nD τ) ↦{fullShare} outF a b : sProp 𝕄) := by
  rw [out_parts, bs_split (show 12 ≤ 30 by omega) (show 30 ≤ 36 by omega)]
  refine BIClass.sep_mono (Entails.of_eq ?_) .rfl
  unfold bs
  rw [show Finset.Ico 18 36 = (Finset.Ico 12 30).map ⟨fun y => y + 6, fun _ _ h => Nat.add_right_cancel h⟩ by decide, bigSep_map]
  rfl

/-! ## The body -/

/-- What the body starts from, -/
def pre : sProp 𝕄 :=
  iprop((∃ W, owes (c : Thread nD τ) (O₀ c) W)
    ∗ (dutyTok ER (barCell (nx true c)) 0 false ∗ dutyTok ER (barCell (nx false c)) 0 true ∗ atPos ER (barCell c) 0 ∅ 0 ∗ cred (tallyAt (barCell c) () 2))
    ∗ (bs 0 36 (fun y => dutyTok ER (sndCell c y) 0 false) ∗ bs 0 36 (fun y => dutyTok ER (rcvCell (tgt y c) y) 0 false) ∗ bs 0 36 (rcvRes c)
      ∗ bs 0 36 (fun y => atPos ER (sndCell c y) 0 ∅ 0))
    ∗ (∃ f, accM.view.loc (c : Thread nD τ) ↦{fullShare} f) ∗ (∃ f, stgM.view.loc (c : Thread nD τ) ↦{fullShare} f) ∗ (∃ f, comM.view.loc (c : Thread nD τ) ↦{fullShare} f)
    ∗ (aM.view.loc (c : Thread nD τ) ↦{fullShare} a c) ∗ (bM.view.loc (c : Thread nD τ) ↦{fullShare} b c) ∗ (∃ f, oM.view.loc (c : Thread nD τ) ↦{fullShare} f))
/-- and what it leaves. -/
def post : sProp 𝕄 :=
  iprop(ow c 36 ∗ (semVal (barCell c) 0 ∗ bs 0 36 (zS c) ∗ bs 0 36 (zR c))
    ∗ (∃ f, accM.view.loc (c : Thread nD τ) ↦{fullShare} f) ∗ (∃ f, stgM.view.loc (c : Thread nD τ) ↦{fullShare} f) ∗ (∃ f, comM.view.loc (c : Thread nD τ) ↦{fullShare} f)
    ∗ (aM.view.loc (c : Thread nD τ) ↦{fullShare} a c) ∗ (bM.view.loc (c : Thread nD τ) ↦{fullShare} b c) ∗ (oM.view.loc (c : Thread nD τ) ↦{fullShare} outF a b))

theorem acc_start (f : Vec F S1536x1536 .bf16) : (accM.view.loc (c : Thread nD τ) ↦{fullShare} f : sProp 𝕄) ⊢ accS a b c ∅ := by
  unfold accS
  iintro H
  iexists f; isplitr
  · ipureintro; exact fun k hk => absurd hk (Finset.notMem_empty k)
  · iexact H
omit [FloatOps F] in
theorem stg_start (f : Vec F S3x2x3x384x256 .bf16) : (stgM.view.loc (c : Thread nD τ) ↦{fullShare} f : sProp 𝕄)
    ⊢ iprop(bs 0 6 (fun z => iprop(∃ f, stgP c z f)) ∗ bs 6 18 (fun z => iprop(∃ f, stgP c z f))) := by
  rw [stg_parts, bs_split (show 0 ≤ 6 by omega) (show 6 ≤ 18 by omega)]
  exact BIClass.sep_mono (some_of 0 6 f) (some_of 6 18 f)
theorem send_start : iprop(bs 0 36 (fun y => dutyTok ER (sndCell c y) 0 false) ∗ bs 0 36 (fun y => dutyTok ER (rcvCell (tgt y c) y) 0 false) ∗ bs 0 36 (fun y => landP (tgt y c) y))
    ⊢ bs (F := F) 0 36 (sendRes c) := by
  unfold sendRes
  rw [bs_sep, bs_sep]
theorem sent_start : iprop(bs 0 36 (fun y => atPos ER (sndCell c y) 0 ∅ 0) ∗ bs 0 36 (cS c)) ⊢ iprop(bs (F := F) 0 18 (sntRes c) ∗ bs 18 36 (sntRes c)) := by
  rw [← bs_split (show 0 ≤ 18 by omega) (show 18 ≤ 36 by omega)]
  unfold sntRes
  rw [bs_sep]

theorem hz2 : (![0, 0] : Fin 2 → Nat) = fun _ => 0 := funext fun i => by fin_cases i <;> rfl

/-- The row chunks filled when a hop's blocks are read. -/
theorem ck_zero (S : Finset (Dev nD)) : ∀ l < 6, ck c 0 l ∈ insert c S := fun l _ => by
  refine Finset.mem_insert.mpr (Or.inl ?_)
  unfold ck; split <;> (revert c; decide)
theorem ck_one (S : Finset (Dev nD)) : ∀ y, 0 ≤ y → y < 0 + 6 → ck c (Fin.ofNat 4 (y / 6 + 1)) (y % 6) ∈ insert (adv c 1) (insert (adv c 3) S) := fun y _ hy => by
  rw [show y / 6 = 0 by omega, Finset.mem_insert, Finset.mem_insert]
  unfold ck; split
  · exact Or.inl rfl
  · exact Or.inr (Or.inl rfl)
theorem ck_two (S : Finset (Dev nD)) : ∀ y, 6 ≤ y → y < 6 + 6 → ck c (Fin.ofNat 4 (y / 6 + 1)) (y % 6) ∈ insert (adv c 2) S := fun y _ hy => by
  rw [show y / 6 = 1 by omega, Finset.mem_insert]
  unfold ck; split <;> exact Or.inl rfl
theorem ck_three (S : Finset (Dev nD)) : ∀ l < 6, ck c 3 l ∈ insert (adv c 2) (insert (adv c 1) (insert (adv c 3) S)) := fun l _ => by
  simp only [Finset.mem_insert]
  unfold ck; split
  · exact Or.inr (Or.inr (Or.inl rfl))
  · exact Or.inr (Or.inl rfl)

theorem wpc_pure (Kt : PUnit.{1} → sProp 𝕄) : Kt ⟨⟩ ⊢ wpc (F := F) c (Pure.pure ⟨⟩) Kt := by
  show Kt ⟨⟩ ⊢ wp frame (wpE (defs₀ (F := F)) 𝒱₀ (c : Thread nD τ) none) Set.univ (Prog.ret ⟨⟩) Kt
  rw [wp_ret]; iintro H; imodintro; iexact H

/-- The body, on one device, from `pre` to `post`. -/
theorem body_run (Kt : PUnit.{1} → sProp 𝕄) : iprop(env a b K ∗ pre a b c) ⊢ iprop((post a b c -∗ Kt ⟨⟩) -∗ wpc c (bodyAt c) Kt) := by
  unfold bodyAt pre
  rw [← bind_pure (runFrom (leftAG c) 18 18)]
  iintro ⟨#HE, HO, ⟨HtN, HtP, HatB, HcB⟩, ⟨Hts, Htr, Hrcv, Hats⟩, ⟨%fa, Hacc⟩, ⟨%fs, Hstg⟩, ⟨%fc, Hcom⟩, Ha, Hb, ⟨%fo, Hout⟩⟩ Hk
  -- the load of `B`
  simp only [Prog.lift, Prog.bind_op, Prog.bind_ret]
  iapply (wp_load 𝒱₀ (c : Thread nD τ) none Set.univ (m := bM) (Finset.subset_univ _)) $$ Hb; iintro Hb
  rw [show bM.view.readAt (Elt F) (Rect.unit (s := S768x1536) ![0, 0] S768x1536.size inb_S768x1536_S768x1536_0_0).toLoadRect (b c) = b c from
    Memref.readAt_unit_zero (Elt F) cc0_stg1_0 hz2 _ (b c)]
  -- the signals hand over the landing areas
  ihave Hland := (land_parts c fc fo) $$ [Hcom Hout]
  · isplitl [Hcom] <;> iassumption
  icases Hland with ⟨Hland, Hown⟩
  ihave Hl := (Entails.of_eq (land_give c)) $$ Hland
  icases Hl with ⟨Hl1, Hl2⟩
  iapply (does_signal a b K c true _ (dev1_eq c) (O₁ c) (O₀ c) rfl _ _) $$ [HO HtN Hl1]
  · iframe HE HO HtN Hl1
  iintro HO
  iapply (does_signal a b K c false _ (dev2_eq c) (owe 0 c) (O₁ c) rfl _ _) $$ [HO HtP Hl2]
  · iframe HE HO HtP Hl2
  iintro HO
  -- the first row chunk, and the first hop staged
  ihave Hacc := (acc_start a b c fa) $$ Hacc
  iapply (wp_chunk a b c _ _ c ∅ _ (k0_off1_inb c) _ (k0_off2_inb c) (k0_off2_packedbf16 c) (k0_off1_eq c) (k0_off2_eq c)) $$ [Hacc Ha]
  · iframe Hacc Ha
  iintro ⟨Hacc, Ha⟩
  ihave Hstg := (stg_start c fs) $$ Hstg
  icases Hstg with ⟨Hstg1, Hstg2⟩
  iapply (run_stage a b K c (ck_zero c ∅) _ _) $$ [Hacc Hstg1]
  · unfold jStage; rw [bs_nil]; iframe HE Hacc Hstg1
  unfold jStage; rw [bs_nil]
  iintro ⟨Hacc, -, Hstg⟩
  -- the neighbours are ready: the first hop goes out
  iapply (does_barrier a b K c _ _) $$ [HO HatB HcB]
  · unfold ow; iframe HE HO HatB HcB
  iintro ⟨HO, HzB, Hland⟩
  ihave Hsend := (send_start c) $$ [Hts Htr Hland]
  · iframe Hts Htr Hland
  iapply (run_send a b K c _ _) $$ [HO Hsend Hstg]
  · unfold jSend sent; rw [bs_nil]; iframe HE HO Hsend Hstg
  unfold jSend; rw [bs_nil]
  iintro ⟨Hsent, -⟩
  -- two more row chunks, and the second hop
  iapply (wp_chunk a b c _ _ (adv c 3) _ _ (k0_off9_inb c) _ (k0_off10_inb c) (k0_off10_packedbf16 c) (k0_off9_eq c) (k0_off10_eq c)) $$ [Hacc Ha]
  · iframe Hacc Ha
  iintro ⟨Hacc, Ha⟩
  iapply (wp_chunk a b c _ _ (adv c 1) _ _ (k0_off11_inb c 0) _ (k0_off12_inb c 0) (k0_off12_packedbf16 c 0) (k0_off11_eq c 0) (k0_off12_eq c 0)) $$ [Hacc Ha]
  · iframe Hacc Ha
  iintro ⟨Hacc, Ha⟩
  iapply (run_step a b K c 0 (by decide) (ck_one c _) _ _) $$ [Hacc Hsent Hrcv Hstg2]
  · unfold jStep came; rw [bs_nil, bs_nil]; iframe HE Hacc Hsent Hrcv Hstg2
  unfold jStep
  iintro ⟨Hacc, Hcame, Hsent, Hstg, Hcom⟩
  -- the last row chunk, and the third hop
  iapply (wp_chunk a b c _ _ (adv c 2) _ _ (k0_off11_inb c 1) _ (k0_off12_inb c 1) (k0_off12_packedbf16 c 1) (k0_off11_eq c 1) (k0_off12_eq c 1)) $$ [Hacc Ha]
  · iframe Hacc Ha
  iintro ⟨Hacc, Ha⟩
  iapply (run_step a b K c 6 (by decide) (ck_two c _) _ _) $$ [Hacc Hcame Hsent Hstg Hcom]
  · unfold jStep; iframe HE Hacc Hcame Hsent Hstg Hcom
  unfold jStep
  iintro ⟨Hacc, Hcame, Hsent, -, Hcom⟩
  -- the device's own blocks, finished and sent
  iapply (run_out a b K c (ck_three c _) _ _) $$ [Hacc Hcame Hsent Hown Hcom]
  · unfold jOut; iframe HE Hacc Hcame Hsent Hown Hcom
  unfold jOut
  iintro ⟨Hacc, Hcame, Hsent, -, Hcom⟩
  -- the gathering
  iapply (run_gather a b K c _ _) $$ [Hcame Hsent]
  · unfold jAG; iframe HE Hcame Hsent
  unfold jAG sent
  iintro ⟨Hcame, HO, -, HcS⟩
  iapply (run_last a b K c _ _) $$ [Hcame HO]
  · unfold jEnd; rw [bs_nil]; iframe HE Hcame HO
  unfold jEnd came
  iintro ⟨⟨-, HzR⟩, HO, Hlast⟩
  -- the departures
  ihave Hsnt := (sent_start c) $$ [Hats HcS]
  · iframe Hats HcS
  icases Hsnt with ⟨Hsnt1, Hsnt2⟩
  iapply (run_leftRS a b K c _ _) $$ [HO Hsnt1]
  · unfold jLeftRS; rw [bs_nil, bs_nil]; iframe HE HO Hsnt1; isplitr <;> iempintro
  unfold jLeftRS
  iintro ⟨HO, -, HzS1, Hstg⟩
  iapply (run_leftAG a b K c _ _) $$ [HO Hsnt2]
  · unfold jLeftAG; rw [bs_nil, bs_nil]; iframe HE HO Hsnt2; isplitr <;> iempintro
  unfold jLeftAG
  iintro ⟨HO, -, HzS2, Hback⟩
  iapply (wpc_pure c Kt)
  iapply Hk
  unfold post
  isplitl [HO]; · iexact HO
  isplitl [HzB HzR HzS1 HzS2]
  · isplitl [HzB]; · iexact HzB
    isplitr [HzR]
    · rw [bs_split (show 0 ≤ 18 by omega) (show 18 ≤ 36 by omega)]; iframe HzS1 HzS2
    iexact HzR
  isplitl [Hacc]
  · unfold accS; icases Hacc with ⟨%f, -, Hacc⟩; iexists f; iexact Hacc
  isplitl [Hstg]; · iexists (stgF a b c); rw [stg_parts]; iexact Hstg
  isplitl [Hcom]; · iexists (comF a b c); rw [com_parts]; iexact Hcom
  isplitl [Ha]; · iexact Ha
  isplitl [Hb]; · iexact Hb
  iapply (out_join a b c)
  iframe Hback Hlast

end Ops

end Cert.RingMM

end
-- ==== Proof.Deal.lean ====
/-
# `Deal`: what the launch deals the devices

The cells and duty tokens of the protocol, as the launch mints them, regrouped: every device gets the tokens of the
duties IT pays and the credits of the payments made to it.
-/
module

public import proofs.«01_k».proof.Proof.Body
public import proofs.«01_k».proof.Proof.Gen.KernelIdeal.Launch
public import Idealize.ShloMosaic.Lib.Pipeline.Launch

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .bf16) (b : Dev nD → Vec F S768x1536 .bf16)

/-! ## The cells by kind -/

/-- The semaphores the kernel declares: all of the protocol's but the barrier. -/
def osem (k : Fin 72) : SemLoc sig := .dma ⟨k.val + 3, by have := k.isLt; show k.val + 3 < 75; omega⟩

/-- The numbers of copy `y`'s two semaphores among these. -/
def lowI (y : ℕ) : Fin 72 := ⟨y % 36, by omega⟩
def highI (y : ℕ) : Fin 72 := ⟨36 + y % 36, by omega⟩

theorem osem_inj : Function.Injective osem := fun k k' h => by
  have h' := congrArg (fun s : SemLoc sig => match s with | .dma q => q.val | .reg _ => 0) h
  exact Fin.ext (Nat.add_right_cancel h')

theorem csem_inj : Function.Injective csem := fun k k' h => by
  have hv (j : Fin 73) : (match csem j with | .dma q => q.val | .reg _ => 2) = j.val + 2 := by
    unfold csem
    by_cases h0 : j.val = 0
    · rw [if_pos h0, h0]
    · rw [if_neg h0]
  have := hv k
  rw [h, hv k'] at this
  exact Fin.ext (by omega)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

omit [FloatOps F] in
/-- Over all cells of a device: the barrier, the send cells, the receive cells. -/
theorem cells_split (Φ : Fin 73 → sProp 𝕄) : bigSep Finset.univ Φ = iprop(Φ 0 ∗ bs 0 36 (fun y => Φ (sI y)) ∗ bs 0 36 (fun y => Φ (rI y))) := by
  have hs : Set.InjOn sI (Finset.Ico 0 36 : Finset ℕ) := fun x hx y hy h => by
    have hx := Finset.mem_Ico.mp (Finset.mem_coe.mp hx); have hy := Finset.mem_Ico.mp (Finset.mem_coe.mp hy)
    have := congrArg Fin.val h; dsimp only [sI] at this; omega
  have hr : Set.InjOn rI (Finset.Ico 0 36 : Finset ℕ) := fun x hx y hy h => by
    have hx := Finset.mem_Ico.mp (Finset.mem_coe.mp hx); have hy := Finset.mem_Ico.mp (Finset.mem_coe.mp hy)
    have := congrArg Fin.val h; dsimp only [rI] at this; omega
  rw [show (Finset.univ : Finset (Fin 73)) = insert 0 ((Finset.Ico 0 36).image sI ∪ (Finset.Ico 0 36).image rI) by decide,
    bigSep_insert (by decide), bigSep_union (by decide), bigSep_image_of_injOn hs, bigSep_image_of_injOn hr]
  rfl

theorem kcell_snd (c : Dev nD) (y : ℕ) : kcell (c, sI y) = sndCell c y := by show (_, csem (sI y)) = _; rw [csem_snd]
theorem kcell_rcv (c : Dev nD) (y : ℕ) : kcell (c, rI y) = rcvCell c y := by show (_, csem (rI y)) = _; rw [csem_rcv]

omit [FloatOps F] in
theorem kcells_split (c : Dev nD) (Ψ : GSem nD τ sig → sProp 𝕄) : (bigSep Finset.univ fun k : Fin 73 => Ψ (kcell (c, k)))
    = iprop(Ψ (barCell c) ∗ bs 0 36 (fun y => Ψ (sndCell c y)) ∗ bs 0 36 (fun y => Ψ (rcvCell c y))) := by
  rw [cells_split]
  simp only [kcell_snd, kcell_rcv]
  rfl

/-! ## Minting -/

def ringCells : Finset (GSem nD τ sig) := Finset.univ.map ⟨kcell, kcell_inj⟩

/-- Every cell's duty `false`, and the barrier's duty `true`. -/
def tokOf (x : Dev nD × (Fin 73 ⊕ Unit)) : GSem nD τ sig × ℕ × Bool := match x.2 with
  | .inl k => (kcell (x.1, k), 0, false)
  | .inr _ => (barCell x.1, 0, true)

theorem tokOf_inj : Function.Injective tokOf := by
  rintro ⟨c, k | u⟩ ⟨c', k' | u'⟩ h
  · have h1 : (c, k) = (c', k') := kcell_inj (congrArg Prod.fst h)
    rw [(Prod.mk.inj h1).1, (Prod.mk.inj h1).2]
  · exact absurd (congrArg (fun x : GSem nD τ sig × ℕ × Bool => x.2.2) h) Bool.false_ne_true
  · exact absurd (congrArg (fun x : GSem nD τ sig × ℕ × Bool => x.2.2) h).symm Bool.false_ne_true
  · have h1 : c = c' := congrArg (fun x : GSem nD τ sig × ℕ × Bool => x.1.1.1) h
    rw [h1]

def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ bs 0 36 (fun y => dutyTok ER (sndCell c y) 0 false) ∗ bs 0 36 (fun y => dutyTok ER (rcvCell c y) 0 false))
    ∗ dutyTok ER (barCell c) 0 true)

/-- What the launch deals device `c` at first. -/
def G (c : Dev nD) : sProp 𝕄 :=
  iprop((bigSep Finset.univ fun k : Fin 73 => roundState ER (ringRd a b) (kcell (c, k)) 0)
    ∗ (bigSep Finset.univ fun k : Fin 73 => iprop(atPos ER (kcell (c, k)) 0 ∅ 0 ∗ reached ER (kcell (c, k)) 0)) ∗ toks c)

theorem fund_ring : BI.own (ER (initOf ringCells ringToks)) ⊢ (|==> bigSep Finset.univ (G a b) : sProp 𝕄) := by
  have hX (Φ : GSem nD τ sig → sProp 𝕄) : bigSep ringCells Φ = bigSep Finset.univ fun c : Dev nD => bigSep Finset.univ fun k : Fin 73 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_of_subsingleton ()]
    unfold toks
    rw [← kcells_split c fun g => dutyTok ER g 0 false]
    rfl
  iintro HX
  imod (Rounds.fund ER (ringRd a b) ringCells ringToks) $$ HX with ⟨Hst, Hr, Hat, Htok⟩
  imodintro
  ihave Hst' := (Entails.of_eq (hX fun g => roundState ER (ringRd a b) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

/-! ## The semaphores at zero -/

omit [FloatOps F] in
theorem ownSems0_eq (c : Dev nD) : (Pipeline.ownSems0 (Ix := Unit) (Name := ℕ) (U := UU) (Lvl := ℕ) (Val := Elt F) (τ := τ) osem c : sProp 𝕄)
    = iprop(bs 0 36 (zS c) ∗ bs 0 36 (zR c)) := by
  have hs : Set.InjOn lowI (Finset.Ico 0 36 : Finset ℕ) := fun x hx y hy h => by
    have hx := Finset.mem_Ico.mp (Finset.mem_coe.mp hx); have hy := Finset.mem_Ico.mp (Finset.mem_coe.mp hy)
    have := congrArg Fin.val h; dsimp only [lowI] at this; omega
  have hr : Set.InjOn highI (Finset.Ico 0 36 : Finset ℕ) := fun x hx y hy h => by
    have hx := Finset.mem_Ico.mp (Finset.mem_coe.mp hx); have hy := Finset.mem_Ico.mp (Finset.mem_coe.mp hy)
    have := congrArg Fin.val h; dsimp only [highI] at this; omega
  have ho {k : Fin 72} {q : DmaSem sig} (h : k.val + 3 = q.val) : osem k = .dma q := congrArg SemLoc.dma (Fin.ext h)
  unfold Pipeline.ownSems0
  rw [show (Finset.univ : Finset (Fin 72)) = (Finset.Ico 0 36).image lowI ∪ (Finset.Ico 0 36).image highI by decide,
    bigSep_union (by decide), bigSep_image_of_injOn hs, bigSep_image_of_injOn hr]
  exact congrArg₂ BI.sep
    (bs_congr fun y _ _ => by rw [ho (q := (sndS y).sem) (by rw [sndS_val]; dsimp only [lowI]; omega)])
    (bs_congr fun y _ _ => by rw [ho (q := (rcvS y).sem) (by rw [rcvS_val]; dsimp only [highI]; omega)])

omit [FloatOps F] in
theorem unscopedSems0_eq (c : Dev nD) : (unscopedSems0 c : sProp 𝕄) = semVal (barCell c) 0 := by
  unfold unscopedSems0; rw [bigSep_eq_bigSepL_of_eq [SemLoc.reg barS.sem] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 73 => semVal (kcell (c, k)) 0 : sProp 𝕄) := by
  rw [ownSems0_eq, unscopedSems0_eq, kcells_split c fun g => semVal g 0]
  iintro ⟨⟨HS, HV⟩, HB⟩
  isplitl [HB]; · iexact HB
  isplitl [HS] <;> iassumption

/-! ## Allocation, all devices at once -/

theorem core_alloc (c : Dev nD) :
    iprop(Pipeline.ownSems0 (Ix := Unit) (Name := ℕ) (U := UU) (Lvl := ℕ) (Val := Elt F) (τ := τ) osem c ∗ unscopedSems0 c ∗ G a b c)
      ⊢ |={Set.univ}=> iprop((bigSep Finset.univ fun k => iprop(∃ κ : ℕ, cellInv ER (ringRd a b) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 73 => semVal (kcell (c, k)) 0) ∗ bigSep Finset.univ fun k : Fin 73 => roundState ER (ringRd a b) (kcell (c, k)) 0)
      ⊢ (|={Set.univ}=> bigSep Finset.univ fun k => iprop(∃ κ : ℕ, cellInv ER (ringRd a b) κ (kcell (c, k))) : sProp 𝕄) from by
        rw [← bigSep_sep']
        exact (bigSep_mono fun k _ => (Rounds.body_intro ER (ringRd a b) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((dutyTok ER (barCell (nx true c)) 0 false ∗ bs 0 36 (fun y => dutyTok ER (sndCell c y) 0 false) ∗ bs 0 36 (fun y => dutyTok ER (rcvCell (tgt y c) y) 0 false))
    ∗ dutyTok ER (barCell (nx false c)) 0 true)
/-- The positions of device `c`'s cells, and those tokens. -/
def linear (c : Dev nD) : sProp 𝕄 :=
  iprop((atPos ER (barCell c) 0 ∅ 0 ∗ bs 0 36 (fun y => atPos ER (sndCell c y) 0 ∅ 0) ∗ bs 0 36 (fun y => atPos ER (rcvCell c y) 0 ∅ 0)) ∗ payToks c)

/-- What every device has when the cells are allocated. -/
def G' (c : Dev nD) : sProp 𝕄 := iprop(∃ K, records a b K ∗ linear c)

/-- Going around the ring. -/
def around (d : Bool) : Dev nD ≃ Dev nD := ⟨nx d, nx (!d), nx_nx' d, nx_nx d⟩

omit [FloatOps F] in
theorem bs_comm {I : Type} (s : Finset I) (lo : ℕ) (Φ : I → ℕ → sProp 𝕄) :
    ∀ n, (bigSep s fun c => bs lo (lo + n) (Φ c)) = bs (F := F) lo (lo + n) fun y => bigSep s fun c => Φ c y
  | 0 => by simp only [Nat.add_zero, bs_nil]; exact bigSep_emp_const s
  | n + 1 => by simp only [← Nat.add_assoc, bs_push (Nat.le_add_right lo n), bigSep_sep']; rw [bs_comm s lo Φ n]

omit [FloatOps F] in
theorem toks_around : (bigSep Finset.univ fun c : Dev nD => (toks c : sProp 𝕄)) ⊢ bigSep Finset.univ fun c : Dev nD => payToks c := by
  have hr : (bigSep Finset.univ fun c : Dev nD => bs (F := F) 0 36 fun y => dutyTok ER (rcvCell c y) 0 false)
      = bigSep Finset.univ fun c : Dev nD => bs 0 36 fun y => dutyTok ER (rcvCell (tgt y c) y) 0 false := by
    rw [bs_comm _ 0 _ 36, bs_comm _ 0 _ 36]
    exact bigSep_congr fun y _ => bigSep_univ_equiv (around (dir y)) fun c : Dev nD => (dutyTok ER (rcvCell c y) 0 false : sProp 𝕄)
  unfold toks payToks
  simp only [bigSep_sep']
  rw [bigSep_univ_equiv (around true) (fun c : Dev nD => (dutyTok ER (barCell c) 0 false : sProp 𝕄)),
    bigSep_univ_equiv (around false) (fun c : Dev nD => (dutyTok ER (barCell c) 0 true : sProp 𝕄)), hr]
  exact .rfl

theorem regroup :
    (bigSep Finset.univ fun c : Dev nD => iprop((bigSep Finset.univ fun k => iprop(∃ κ : ℕ, cellInv ER (ringRd a b) κ (kcell (c, k))))
          ∗ (bigSep Finset.univ fun k => iprop(atPos ER (kcell (c, k)) 0 ∅ 0 ∗ reached ER (kcell (c, k)) 0)) ∗ toks c) : sProp 𝕄)
      ⊢ bigSep Finset.univ (G' a b) := by
  rw [bigSep_sep', bigSep_sep', ← bigSep_univ_prod (fun ck : Dev nD × Fin 73 => iprop(∃ κ : ℕ, cellInv ER (ringRd a b) κ (kcell ck))),
    bigSep_congr (s := Finset.univ) (fun (c : Dev nD) _ => bigSep_sep' Finset.univ (fun k : Fin 73 => (atPos ER (kcell (c, k)) 0 ∅ 0 : sProp 𝕄)) (fun k => reached ER (kcell (c, k)) 0)),
    bigSep_sep', ← bigSep_univ_prod (fun ck : Dev nD × Fin 73 => (reached ER (kcell ck) 0 : sProp 𝕄))]
  iintro ⟨HI, ⟨Hat, #HR⟩, Htok⟩
  ihave HK := (BI.bigSep_exists_pi Finset.univ (fun (ck : Dev nD × Fin 73) (κ : ℕ) => (cellInv ER (ringRd a b) κ (kcell ck) : sProp 𝕄))) $$ HI
  icases HK with ⟨%K, #HI⟩
  ihave Htk := (toks_around (F := F)) $$ Htok
  iapply (BI.bigSep_with_persistent (R := records a b K) (Φ := linear) fun c _ => by unfold G'; iintro ⟨HR, HL⟩; iexists K; isplitl [HR] <;> iassumption)
  isplitr
  · unfold records; isplitl; · iexact HI
    iexact HR
  · iapply ((Entails.of_eq (bigSep_sep' Finset.univ (fun c : Dev nD => bigSep Finset.univ fun k : Fin 73 => (atPos ER (kcell (c, k)) 0 ∅ 0 : sProp 𝕄)) payToks).symm).trans
      (bigSep_mono fun c _ => show _ ⊢ linear c from Entails.of_eq (by unfold linear; rw [kcells_split c fun g => atPos ER g 0 ∅ 0])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G a b c) : sProp 𝕄)
    ⊢ |={Set.univ}=> bigSep Finset.univ (G' a b) :=
  ((bigSep_mono fun c _ => core_alloc a b c).trans (bigSep_fupd _ _)).trans (BI.fupd_mono (regroup a b))

/-! ## The credits of the launch -/

theorem rcvCell_iff {c d : Dev nD} {y z : ℕ} (hy : y < 36) (hz : z < 36) : Iff (rcvCell c y = rcvCell d z) (c = d ∧ y = z) :=
  ⟨fun h => ⟨congrArg (fun g : GSem nD τ sig => g.1.1) h, by
    have h' := congrArg (fun g : GSem nD τ sig => match g.2 with | .dma q => q.val | .reg _ => 0) h
    dsimp only at h'
    rw [rcvS_val, rcvS_val] at h'
    omega⟩, fun ⟨h1, h2⟩ => by rw [h1, h2]⟩
theorem bar_ne_rcv (c d : Dev nD) (y : ℕ) : barCell c ≠ rcvCell d y := fun h => by
  have h' : (SemLoc.reg barS.sem : SemLoc sig) = .dma (rcvS y).sem := congrArg Prod.snd h
  cases h'
theorem barCell_iff {c d : Dev nD} : Iff (barCell c = barCell d) (c = d) := ⟨fun h => congrArg (fun g : GSem nD τ sig => g.1.1) h, fun h => h ▸ rfl⟩

theorem owe_bar (n : ℕ) (d c : Dev nD) : owe n d (barCell c) () = 0 := by
  by_contra h
  obtain ⟨y, -, -, hg⟩ := owe_pos (Nat.pos_of_ne_zero h)
  exact bar_ne_rcv _ _ _ hg

theorem nx_eq_iff (e : Bool) (d c : Dev nD) : Iff (c = nx e d) (d = nx (!e) c) :=
  ⟨fun h => by rw [h, nx_nx'], fun h => by rw [h, nx_nx]⟩

theorem owed_bar (d c : Dev nD) : O₀ d (barCell c) () = (if d = nx true c then 1 else 0) + (if d = nx false c then 1 else 0) := by
  unfold O₀ O₁
  rw [Pi.add_apply, Finsupp.add_apply, Pi.add_apply, Finsupp.add_apply, owe_bar, tallyAt_apply, tallyAt_apply, Nat.zero_add]
  have h (e : Bool) : (if barCell c = barCell (nx e d) ∧ () = () then 1 else 0) = if d = nx (!e) c then 1 else 0 :=
    if_congr ((and_iff_left rfl).trans (barCell_iff.trans (nx_eq_iff e d c))) rfl rfl
  rw [h, h]; rfl

theorem owed_rcv (d c : Dev nD) {y : ℕ} (hy : y < 36) : O₀ d (rcvCell c y) () = if d = orig y c then N else 0 := by
  unfold O₀ O₁
  rw [Pi.add_apply, Finsupp.add_apply, Pi.add_apply, Finsupp.add_apply, tallyAt_ne_cell (bar_ne_rcv _ _ _).symm, tallyAt_ne_cell (bar_ne_rcv _ _ _).symm]
  rw [Finsupp.zero_apply, Nat.add_zero, Nat.add_zero]
  unfold owe
  rw [Finset.sum_apply, Finsupp.finset_sum_apply, Finset.sum_eq_single y]
  · rw [tallyAt_apply]
    exact if_congr ((and_iff_left rfl).trans ((rcvCell_iff hy hy).trans ((and_iff_left rfl).trans (nx_eq_iff (dir y) d c)))) rfl rfl
  · intro z hz hzy
    rw [tallyAt_apply, if_neg fun h => hzy ((rcvCell_iff hy (Finset.mem_Ico.mp hz).2).mp h.1).2.symm]
  · intro h; exact absurd (Finset.mem_Ico.mpr ⟨Nat.zero_le y, hy⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nx true c) fun _ => 1, Finset.sum_ite_eq' Finset.univ (nx false c) fun _ => 1, if_pos (Finset.mem_univ _), if_pos (Finset.mem_univ _)]

theorem launch_rcv (c : Dev nD) {y : ℕ} (hy : y < 36) :
    tallyOn (rcvCell c y) (launchCredit (Pipeline.owing O₀) 0 (rcvCell c y)) = (tallyAt (rcvCell c y) () N : CellTallies nD τ sig Unit) := by
  unfold tallyAt; refine congrArg _ (Finsupp.ext fun u => ?_); cases u
  rw [Pipeline.launchCredit_owing, Finsupp.single_eq_same, Finset.sum_congr rfl fun d _ => owed_rcv d c hy, Finset.sum_ite_eq' Finset.univ (orig y c) fun _ => N,
    if_pos (Finset.mem_univ _)]

omit [FloatOps F] in
theorem creds (c : Dev nD) :
    (Pipeline.launchCred O₀ c : sProp 𝕄) ⊢ iprop(cred (tallyAt (barCell c) () 2) ∗ bs 0 36 (fun y => cred (tallyAt (rcvCell c y) () N))) := by
  have hi : Set.InjOn (fun y => (SemLoc.dma (rcvS y).sem : SemLoc sig)) (Finset.Ico 0 36 : Finset ℕ) := fun x hx y hy h =>
    ((rcvCell_iff (c := c) (d := c) (Finset.mem_Ico.mp (Finset.mem_coe.mp hx)).2 (Finset.mem_Ico.mp (Finset.mem_coe.mp hy)).2).mp (congrArg (Prod.mk _) h)).2
  unfold Pipeline.launchCred
  rw [BI.bigSep_univ_at _ (SemLoc.reg barS.sem), launch_bar]
  refine sep_mono_right ?_
  refine (bigSep_subset (t := (Finset.Ico 0 36).image fun y => SemLoc.dma (rcvS y).sem) ?_).trans ?_
  · intro s hs
    obtain ⟨y, -, rfl⟩ := Finset.mem_image.mp hs
    exact Finset.mem_erase.mpr ⟨fun h => bar_ne_rcv c c y (congrArg (Prod.mk _) h.symm), Finset.mem_univ _⟩
  · rw [bigSep_image_of_injOn hi]
    exact Entails.of_eq (bs_congr fun y _ hy => by rw [launch_rcv c hy])

end Cert.RingMM

end
-- ==== Proof.Run.lean ====
/-
# `Run`: the run of the whole program

The body of `Body` as the body of the program's one region, launched with what `Deal` deals: every execution ends, the
result of every device is `outF` of the argument arrays, which are unchanged, and every semaphore is back at zero.
-/
module

public import proofs.«01_k».proof.Proof.Deal
public import proofs.«01_k».proof.Proof.Gen.KernelIdeal.Points
public import Idealize.ShloMosaic.Lib.Quiescent
public import Idealize.ShloMosaic.Lib.Pipeline.CollectiveSegs

@[expose] public section

noncomputable section

namespace Cert.RingMM

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (a : Loc nD τ sig) → Buf (Elt F) a) (ρ : Dev nD → PrngReg)

/-- The memory at the start: every counter at zero. -/
def s₀ : MemSt nD τ sig (Elt F) := ⟨m, fun _ => 0, ρ⟩

/-- Device `c`'s shares of the two factors, as its body finds them. -/
def xA (c : Dev nD) : Vec F S1536x768 .bf16 := (win0_0.blk (0 : Fin 1)).view.read (Elt F) (m ((c : Thread nD τ).loc main_arg0))
def xB (c : Dev nD) : Vec F S768x1536 .bf16 := (win0_1.blk (0 : Fin 1)).view.read (Elt F) (m ((c : Thread nD τ).loc main_arg1))

/-- The three scratch buffers, at any contents. -/
def scratch (c : Dev nD) : sProp 𝕄 :=
  iprop((∃ f, accM.view.loc (c : Thread nD τ) ↦{fullShare} f) ∗ (∃ f, stgM.view.loc (c : Thread nD τ) ↦{fullShare} f) ∗ (∃ f, comM.view.loc (c : Thread nD τ) ↦{fullShare} f))

/-- What device `c`'s body starts from, besides its buffers. -/
def start (c : Dev nD) : sProp 𝕄 :=
  iprop(G' (xA m) (xB m) c ∗ (cred (tallyAt (barCell c) () 2) ∗ bs 0 36 (fun y => cred (tallyAt (rcvCell c y) () N))) ∗ levAts L lv)

def Φ₀ (c : Dev nD) : sProp 𝕄 := iprop(start m c ∗ scratch c)
def Φ₁ (c : Dev nD) : sProp 𝕄 := iprop((semVal (barCell c) 0 ∗ bs 0 36 (zS c) ∗ bs 0 36 (zR c)) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => xB m c
    | ⟨2, _⟩ => outF (xA m) (xB m)
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (r : Ref sig .tc) (X : r.ty.Contents (Elt F)) :
    (owns (Ix := Unit) (Name := ℕ) (U := UU) (Lvl := ℕ) (c : Thread nD τ) (Memref.whole r) fullShare X : sProp 𝕄)
      = iprop(∃ f : Buf (Elt F) ((c : Thread nD τ).loc r), ⌜f = X⌝ ∗ (((c : Thread nD τ).loc r) ↦{fullShare} f)) := by
  unfold owns; simp only [Memref.view_whole, View.read_whole, View.set_whole]

/-- The staging buffer `r` at contents `X`. -/
abbrev stg (c : Dev nD) (r : Ref sig .tc) (X : r.ty.Contents (Elt F)) : sProp 𝕄 :=
  iprop(∃ f : Buf (Elt F) ((c : Thread nD τ).loc r), ⌜f = X⌝ ∗ (((c : Thread nD τ).loc r) ↦{fullShare} f))

/-! ## The body as the region's body -/

theorem before_0 (c : Dev nD) (d : (cfg0.win (0 : Fin 3)).block.Idx → Elt F (cfg0.win (0 : Fin 3)).elt) : (dats m ρ 0 c).before (0 : Fin 3) t0_0 d = xA m c := by
  unfold Dat.before; rw [if_pos (fetch0_0 t0_0)]; rfl
theorem before_1 (c : Dev nD) (d : (cfg0.win (1 : Fin 3)).block.Idx → Elt F (cfg0.win (1 : Fin 3)).elt) : (dats m ρ 0 c).before (1 : Fin 3) t0_0 d = xB m c := by
  unfold Dat.before; rw [if_pos (fetch0_1 t0_0)]; rfl

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xA m c) ∗ stg c cc0_stg1_0 (xB m c) ∗ stg c cc0_stg2_0 (outF (xA m) (xB m)))

theorem pre_intro (c : Dev nD) (K : Dev nD × Fin 73 → ℕ) (W : Finset (SemLoc sig × Unit)) (f2 : Vec F S1536x1536 .bf16) :
    iprop((owes (c : Thread nD τ) (O₀ c) W ∗ linear c ∗ (cred (tallyAt (barCell c) () 2) ∗ bs 0 36 (fun y => cred (tallyAt (rcvCell c y) () N))) ∗ scratch c)
        ∗ (aM.view.loc (c : Thread nD τ) ↦{fullShare} xA m c) ∗ (bM.view.loc (c : Thread nD τ) ↦{fullShare} xB m c) ∗ (oM.view.loc (c : Thread nD τ) ↦{fullShare} f2))
      ⊢ pre (xA m) (xB m) c := by
  unfold pre linear payToks scratch rcvRes
  rw [bs_sep]
  iintro ⟨⟨HO, ⟨⟨HpB, HpS, HpR⟩, ⟨HtF, HtS, HtR⟩, HtT⟩, ⟨HcB, HcR⟩, ⟨Hacc, Hstg, Hcom⟩⟩, Ha, Hb, Ho⟩
  isplitl [HO]; · iexists W; iexact HO
  iframe HpB HpS HpR HtF HtS HtR HtT HcB HcR Hacc Hstg Hcom Ha Hb
  iexists f2; iexact Ho

theorem post_elim (c : Dev nD) : (post (xA m) (xB m) c : sProp 𝕄) ⊢ bodyPost m ρ c := by
  unfold post bodyPost Φ₁ scratch ow Dat.owesAt Pipeline.owesWithin
  rw [show (dats m ρ 0 c).owed t0_0.succ = 0 from rfl, owe_end le_rfl]
  iintro ⟨⟨%W, HO⟩, ⟨HzB, HzS, HzR⟩, Hacc, Hstg, Hcom, Ha, Hb, Ho⟩
  iframe HzB HzS HzR Hacc Hstg Hcom
  isplitl [HO]
  · iexists W; isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

theorem body_region (c : Dev nD) : bodyPre m ρ c ⊢ wpc (F := F) c body (fun _ => bodyPost m ρ c) := by
  unfold bodyPre Φ₀ start G' Dat.owesAt Pipeline.owesWithin body
  rw [show (dats m ρ 0 c).owed t0_0.castSucc = O₀ c from rfl]
  simp only [before_0, before_1]
  simp only [Prog.lift, Prog.bind_op, Prog.bind_ret, wp_deviceId]
  iintro ⟨⟨⟨⟨%K, HR, HL⟩, HC, HLev⟩, HS⟩, ⟨%W, %hW, HO⟩, ⟨%d0, %f0, %h0, Ha⟩, ⟨%d1, %f1, %h1, Hb⟩, ⟨%d2, %f2, %h2, Ho⟩⟩
  subst h0 h1
  iapply (body_run (xA m) (xB m) K c (fun _ => bodyPost m ρ c)) $$ [HR HL HC HLev HS HO Ha Hb Ho]
  · unfold env
    isplitl [HR HLev]
    · isplitl [HR] <;> iassumption
    iapply (pre_intro m c K W f2)
    iframe HO HL HC HS Ha Hb Ho
  · iintro H
    iapply (post_elim m ρ c)
    iexact H

set_option maxRecDepth 100000 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wpc (F := F) c (cc0_body (F := F) aM (Memref.isWhole_whole _) bM (Memref.isWhole_whole _) oM (Memref.isWhole_whole _)
    accM (Memref.isWhole_whole _) stgM (Memref.isWhole_whole _) comM (Memref.isWhole_whole _) cc0_scratch3 cc0_scratch4) (fun _ => bodyPost m ρ c)
  rw [body_eq]
  exact body_region m ρ c

/-! ## The side conditions of the launch -/

theorem ownSemFacts : Pipeline.OwnSemFacts cfg0.spec osem :=
  ⟨by decide, osem_inj, by decide⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun r => m ((c : Thread nD τ).loc r)) ∗ levAts L lv
        ∗ Pipeline.launchCred O₀ c ∗ prngReg c (ρ c) ∗ G' (xA m) (xB m) c)
      ⊢ |={Set.univ}=> iprop(start m c ∗ emp) := by
  iintro ⟨-, Hlev, Hcr, -, HG⟩
  ihave Hc := (creds (F := F) c) $$ Hcr
  imodintro
  unfold start
  isplitl
  · iframe HG Hc Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨⟨HzB, HzS, HzR⟩, Hr⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What an array of the region holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xA m) (xB m)) (G' := G' (xA m) (xB m)) (u₀ := u₀)
    (hu₀ := by
      unfold u₀
      iintro Hu
      ihave H := (ownU_pair _ _) $$ Hu
      icases H with ⟨HP, HX⟩
      imod (fund_ring (xA m) (xB m)) $$ HX with HG
      imodintro
      isplitl [HP] <;> iassumption)
    (hglob := glob (xA m) (xB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

omit [FloatOps F] in
/-- A window here is its whole array. -/
theorem xA_eq (c : Dev nD) : xA m c = m ((c : Thread nD τ).loc main_arg0) :=
  Memref.read_access_unit_zero (Elt F) main_arg0 (off := fun a => (win0_0.index (0 : Fin 1)) a * main_arg0.ty.shape.size a) (funext fun a => by fin_cases a <;> decide)
    (fun a => by fin_cases a <;> decide) _
omit [FloatOps F] in
theorem xB_eq (c : Dev nD) : xB m c = m ((c : Thread nD τ).loc main_arg1) :=
  Memref.read_access_unit_zero (Elt F) main_arg1 (off := fun a => (win0_1.index (0 : Fin 1)) a * main_arg1.ty.shape.size a) (funext fun a => by fin_cases a <;> decide)
    (fun a => by fin_cases a <;> decide) _

theorem finalA_0 (c : Dev nD) : finalA m ρ c (0 : Fin 3) = m ((c : Thread nD τ).loc main_arg0) := (dats m ρ 0 c).arrAt_in (0 : Fin 3) rfl _
theorem finalA_1 (c : Dev nD) : finalA m ρ c (1 : Fin 3) = m ((c : Thread nD τ).loc main_arg1) := (dats m ρ 0 c).arrAt_in (1 : Fin 3) rfl _

theorem finalA_2 (c : Dev nD) : finalA m ρ c (2 : Fin 3) = outF (xA m) (xB m) := by
  have h : (win0_2.blk (0 : Fin 1)).view.read (Elt F) (finalA m ρ c (2 : Fin 3)) = outF (xA m) (xB m) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt F) main_v1 (off := fun a => (win0_2.index (0 : Fin 1)) a * main_v1.ty.shape.size a) (funext fun a => by fin_cases a <;> decide)
    (fun a => by fin_cases a <;> decide) _).symm

/-- From any memory, over any float values: every execution of the program on the four devices ends; every device's
    result is then `outF` of the argument arrays the devices were given, those arrays are what they were, and every
    semaphore is at zero. -/
theorem run_main : θ_run defs (onTc (τ := τ) (main (F := F))) ⟨m, fun _ => 0, ρ⟩ (fun r =>
    (∀ c : Dev nD, r.2.mem ((c : Thread nD τ).loc main_v1) = outF (fun d : Dev nD => m (((d : Dev nD) : Thread nD τ).loc main_arg0)) (fun d : Dev nD => m (((d : Dev nD) : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine (θ_run defs _ _).mono (fun r h => ⟨fun c => ⟨?_, ?_, ?_⟩, h.2⟩) (run_region m ρ)
  · refine (h.1 c (2 : Fin 3)).trans ((finalA_2 m ρ c).trans ?_)
    rw [show xA m = fun d : Dev nD => m (((d : Dev nD) : Thread nD τ).loc main_arg0) from funext (xA_eq m), show xB m = fun d : Dev nD => m (((d : Dev nD) : Thread nD τ).loc main_arg1) from funext (xB_eq m)]
  · exact (h.1 c (0 : Fin 3)).trans (finalA_0 m ρ c)
  · exact (h.1 c (1 : Fin 3)).trans (finalA_1 m ρ c)

end Cert.RingMM

end
-- ==== Proof.Value.lean ====
/-
# `Value`: the result over the extended reals

Over the extended reals every block a device finishes is the sum of the four devices' products there, cut off
at zero from below, and the four sums over a shard of the inner dimension make up the sum over all of it. So the
filled result is the reference's own term of the whole operands.
-/
module

public import proofs.«01_k».proof.Proof.Common
public import proofs.«01_k».proof.Proof.Gen.ReferenceIdeal.Run
public import Idealize.ShloMosaic.Lib.Pointwise
public import Idealize.ShloMosaic.Lib.Layout

@[expose] public section

noncomputable section

namespace Cert.RingMM

open Cert.KernelIdeal Cert.KernelIdeal.Gen
open Idealize.ShloMosaic
open Idealize.ShloMosaic.TcCoe

variable (a : Dev nD → Vec Ideal S1536x768 .bf16) (b : Dev nD → Vec Ideal S768x1536 .bf16)

/-- Device `c`'s share of element `(r, q)` of the product. -/
def part (c : Dev nD) (r q : Fin 1536) : EReal := ∑ k : Fin 768, a c (ix2 r k) * b c (ix2 k q)

theorem prod_at (c k : Dev nD) (p : Fin 384) (r q : Fin 1536) (hr : r.val = 384 * k.val + p.val) :
    prod a b c k (ix2 p q) = part a b c r q := by
  unfold prod k0_pay9 k0_pay1 part
  pointwise
  refine Finset.sum_congr rfl fun x _ => ?_
  congr 1
  show a c _ = a c _
  congr 1
  funext i
  refine Fin.ext ?_
  fin_cases i
  · show 384 * k.val + 1 * p.val = r.val
    omega
  · show 0 + 1 * x.val = x.val
    omega

theorem accF_at (c : Dev nD) (r q : Fin 1536) : accF a b c (ix2 r q) = part a b c r q := by
  unfold accF
  have hr := r.isLt
  have hw : (wrap pos2 (ix2 r q) : S384x1536.Idx) = ix2 ⟨r.val % 384, Nat.mod_lt _ (by decide)⟩ q := by
    funext i
    refine Fin.ext ?_
    fin_cases i
    · rfl
    · exact Nat.mod_eq_of_lt q.isLt
  rw [hw]
  refine prod_at a b c _ _ r q ?_
  show r.val = 384 * (r.val / 384 % 4) + r.val % 384
  omega

theorem pblk_at (c : Dev nD) (i : Fin 4) (l : Fin 6) (p : Fin 384) (q : Fin 256) (r s : Fin 1536)
    (hr : r.val = 384 * (ck c i l.val).val + p.val) (hs : s.val = 256 * l.val + q.val) :
    pblk a b c i l.val (ix2 p q) = part a b c r s := by
  rw [← accF_at]
  show accF a b c _ = accF a b c _
  congr 1
  funext x
  refine Fin.ext ?_
  fin_cases x
  · show accOff c i l.val 0 + 1 * p.val = r.val
    rw [accOff_eq6]
    show 384 * (ck c i l.val).val + 1 * p.val = r.val
    omega
  · show accOff c i l.val 1 + 1 * q.val = s.val
    rw [accOff_eq6]
    show 256 * l.val + 1 * q.val = s.val
    omega

/-- The block that ends on a device visits every device of the ring at the same row chunk. -/
theorem ck_chain : ∀ (K : Dev nD) (l : Fin 6), ck (orig l.val K) 3 l.val = K ∧ ck (orig l.val (orig l.val K)) 2 l.val = K
    ∧ ck (orig l.val (orig l.val (orig l.val K))) 1 l.val = K ∧ ck (orig l.val (orig l.val (orig l.val (orig l.val K)))) 0 l.val = K := by
  decide

theorem ring_sum (f : Dev nD → EReal) (d : Bool) (c : Dev nD) :
    f (nx d c) + (f (nx d (nx d c)) + (f (nx d (nx d (nx d c))) + f (nx d (nx d (nx d (nx d c)))))) = ∑ c : Dev nD, f c := by
  rw [show ∑ c : Dev nD, f c = f 0 + f 1 + f 2 + f 3 from Fin.sum_univ_four f]
  cases d <;> fin_cases c
  · show f 1 + (f 2 + (f 3 + f 0)) = _; ac_rfl
  · show f 2 + (f 3 + (f 0 + f 1)) = _; ac_rfl
  · show f 3 + (f 0 + (f 1 + f 2)) = _; ac_rfl
  · show f 0 + (f 1 + (f 2 + f 3)) = _; ac_rfl
  · show f 3 + (f 2 + (f 1 + f 0)) = _; ac_rfl
  · show f 0 + (f 3 + (f 2 + f 1)) = _; ac_rfl
  · show f 1 + (f 0 + (f 3 + f 2)) = _; ac_rfl
  · show f 2 + (f 1 + (f 0 + f 3)) = _; ac_rfl

/-- The block finished on lane `l` for row chunk `K`. -/
theorem U_at (K : Dev nD) (l : Fin 6) (p : Fin 384) (q : Fin 256) (r s : Fin 1536)
    (hr : r.val = 384 * K.val + p.val) (hs : s.val = 256 * l.val + q.val) :
    U a b (orig l.val K) l.val (ix2 p q) = max (∑ c : Dev nD, part a b c r s) 0 := by
  unfold U T T T k0_pay27 k0_pay12 k0_pay3
  pointwise
  obtain ⟨h3, h2, h1, h0⟩ := ck_chain K l
  rw [pblk_at a b _ 3 l p q r s (by rw [h3]; exact hr) hs, pblk_at a b _ (Fin.ofNat 4 2) l p q r s (by rw [show (Fin.ofNat 4 2 : Fin 4) = 2 from rfl, h2]; exact hr) hs,
    pblk_at a b _ (Fin.ofNat 4 1) l p q r s (by rw [show (Fin.ofNat 4 1 : Fin 4) = 1 from rfl, h1]; exact hr) hs, pblk_at a b _ 0 l p q r s (by rw [h0]; exact hr) hs]
  exact congrArg (max · 0) (ring_sum (fun c => part a b c r s) (!dir l.val) K)

theorem outF_at (r s : Fin 1536) : outF a b (ix2 r s) = max (∑ c : Dev nD, part a b c r s) 0 := by
  have hr := r.isLt
  have hs := s.isLt
  have hw : (wrap posB (ix2 r s) : S384x256.Idx) = ix2 ⟨r.val % 384, Nat.mod_lt _ (by decide)⟩ ⟨s.val % 256, Nat.mod_lt _ (by decide)⟩ := by
    funext i
    refine Fin.ext ?_
    fin_cases i <;> rfl
  unfold outF
  rw [hw]
  refine U_at a b (Fin.ofNat 4 (r.val / 384)) ⟨s.val / 256, by omega⟩ _ _ r s ?_ ?_
  · show r.val = 384 * (r.val / 384 % 4) + r.val % 384
    omega
  · show s.val = 256 * (s.val / 256) + s.val % 256
    omega

/-! ## The reference -/

/-- The reference's result of the whole operands. -/
def refF (A : FVec Ideal Cert.ReferenceIdeal.S1536x3072 .bf16) (B : FVec Ideal Cert.ReferenceIdeal.S3072x1536 .bf16) :
    FVec Ideal Cert.ReferenceIdeal.S1536x1536 .bf16 := fun i => max (∑ k : Fin 3072, A (ix2 (i 0) k) * B (ix2 k (i 1))) 0

/-- A sum over the inner dimension, shard by shard. -/
theorem sum_shards (f : Fin 3072 → EReal) :
    ∑ k : Fin 3072, f k = ∑ c : Dev nD, ∑ k : Fin 768, f ⟨c.val * 768 + k.val, by have := k.isLt; have : c.val < 4 := c.isLt; omega⟩ := by
  rw [← Fintype.sum_prod_type' (fun (c : Dev nD) (k : Fin 768) => f ⟨c.val * 768 + k.val, by have := k.isLt; have : c.val < 4 := c.isLt; omega⟩)]
  refine (Fintype.sum_equiv (finProdFinEquiv (m := 4) (n := 768)) _ _ fun x => congrArg f (Fin.ext ?_)).symm
  show x.1.val * 768 + x.2.val = x.2.val + 768 * x.1.val
  omega

/-- From the shards of the operands, the devices' result is the reference's. -/
theorem outF_eq (A : FVec Ideal Cert.ReferenceIdeal.S1536x3072 .bf16) (B : FVec Ideal Cert.ReferenceIdeal.S3072x1536 .bf16)
    (ha : ∀ c : Dev nD, ∀ (r : Fin 1536) (k : Fin 768), a c (ix2 r k) = A (ix2 r ⟨c.val * 768 + k.val, by have := k.isLt; have : c.val < 4 := c.isLt; omega⟩))
    (hb : ∀ c : Dev nD, ∀ (k : Fin 768) (s : Fin 1536), b c (ix2 k s) = B (ix2 ⟨c.val * 768 + k.val, by have := k.isLt; have : c.val < 4 := c.isLt; omega⟩ s)) :
    outF a b = refF A B := by
  funext i
  obtain ⟨r, s, rfl⟩ : ∃ r s : Fin 1536, i = ix2 r s := ⟨i 0, i 1, eq_ix2 i⟩
  rw [outF_at]
  show _ = max (∑ k : Fin 3072, A (ix2 r k) * B (ix2 k s)) 0
  rw [sum_shards]
  refine congrArg (max · 0) (Finset.sum_congr rfl fun c _ => Finset.sum_congr rfl fun k _ => ?_)
  rw [ha, hb]

end Cert.RingMM

end
-- ==== Proof.lean ====
/-
# The certificate

The kernel multiplies each device's shards of the two operands, adds the four products up around the ring,
cuts the sum off at zero from below and hands every device every block of it. It runs to its end from any memory,
leaves its arguments as they were and every semaphore at zero; and over the extended reals every device ends with
the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-! ## Frames -/

/-- For any float values: the arguments end unchanged, and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.RingMM.run_main (F := F) m ρ)

/-- `Kernel` has the text of `KernelIdeal`: the label bodies of the two are the same, -/
theorem defs₀_eq {F : FTy → Type} [FloatOps F] : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀)) (funext fun p => funext fun x => ?_)
  revert x
  match p with
  | 0 => exact fun x => rfl
/-- and so are their definitions. -/
theorem defs_eq {F : FTy → Type} [FloatOps F] : Cert.Kernel.defs (F := F) = Cert.KernelIdeal.defs (F := F) :=
  congrArg (Pipeline.defs (Cert.KernelIdeal.pcfgs (F := F))) defs₀_eq

theorem frame_kernel : Cert.quiescent_Kernel := by
  intro m ρ _
  rw [defs_eq (F := Bits)]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-! ## The value -/

/-- The reference's operations, composed, are the cut-off sum over the inner dimension. -/
theorem reference_value (A : FVec Ideal Cert.ReferenceIdeal.S1536x3072 .bf16) (B : FVec Ideal Cert.ReferenceIdeal.S3072x1536 .bf16) :
    maximumf (truncf .bf16 (Host.dotGeneral Cert.ReferenceIdeal.dot_S1536x3072_S3072x1536_S1536x1536_1_0_0_1_n_n none A B : FVec Ideal Cert.ReferenceIdeal.S1536x1536 .f32)
        Cert.ReferenceIdeal.Gen.bitsLt_bf16_f32)
      (broadcastInDim Cert.ReferenceIdeal.S1536x1536 ![] Cert.ReferenceIdeal.Gen.bcast_S_S1536x1536 (constant Cert.ReferenceIdeal.S_ .bf16 0x0000#16))
    = Cert.RingMM.refF A B := by
  funext i
  unfold Cert.RingMM.refF
  pointwise

theorem value : Cert.algebraic_KernelIdeal_ReferenceIdeal := by
  intro m ρ m' ρ' _ hm
  refine ⟨Cert.RingMM.refF (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (Cert.RingMM.run_main (F := Ideal) m ρ)
    refine Cert.RingMM.outF_eq _ _ _ _ (fun d r k => ?_) (fun d k s => ?_)
    · refine (congrFun (hm d).1 (ix2 r k)).trans (congrArg (m' (((0 : Dev Cert.ReferenceIdeal.nD).tc : Thread Cert.ReferenceIdeal.nD Cert.ReferenceIdeal.τ).loc Cert.ReferenceIdeal.main_arg0)) (funext fun x => Fin.ext ?_))
      fin_cases x <;> rfl
    · refine (congrFun (hm d).2 (ix2 k s)).trans (congrArg (m' (((0 : Dev Cert.ReferenceIdeal.nD).tc : Thread Cert.ReferenceIdeal.nD Cert.ReferenceIdeal.τ).loc Cert.ReferenceIdeal.main_arg1)) (funext fun x => Fin.ext ?_))
      fin_cases x <;> rfl
  · exact (θ_run Cert.ReferenceIdeal.defs _ _).mono (fun _ h => ⟨(h 0).1.trans (reference_value _ _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, value⟩

end Cert.Proof

end
